-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_three_nearest_decided [hPre_three_nearest_decided : Cert.Pre_three_nearest_decided.Facts] (m : (ℓ : Loc Cert.KernelIdeal.nD Cert.KernelIdeal.τ Cert.KernelIdeal.sig) → Buf (Elt Ideal) ℓ) : Prop :=
  ∀ c : Dev Cert.KernelIdeal.nD,
    (Cert.Pre_three_nearest_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_three_nearest_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_three_nearest_decided [hPre_three_nearest_decided : Cert.Pre_three_nearest_decided.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_three_nearest_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_three_nearest_decided.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_three_nearest_decided [hKernelIdeal : Cert.KernelIdeal.Facts] [hPre_three_nearest_decided : Cert.Pre_three_nearest_decided.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_three_nearest_decided m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_three_nearest_decided [hReferenceIdeal : Cert.ReferenceIdeal.Facts] [hPre_three_nearest_decided : Cert.Pre_three_nearest_decided.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_three_nearest_decided m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_three_nearest_decided [hKernelIdeal : Cert.KernelIdeal.Facts] [hReferenceIdeal : Cert.ReferenceIdeal.Facts] [hPre_three_nearest_decided : Cert.Pre_three_nearest_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_three_nearest_decided m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_three_nearest_decided : Cert.Pre_three_nearest_decided.Facts),
    quiescent_Kernel (hKernel := hKernel)
    ∧ quiescent_KernelIdeal (hKernelIdeal := hKernelIdeal)
    ∧ quiescent_KernelIdeal_pre_three_nearest_decided (hKernelIdeal := hKernelIdeal) (hPre_three_nearest_decided := hPre_three_nearest_decided)
    ∧ quiescent_ReferenceIdeal (hReferenceIdeal := hReferenceIdeal)
    ∧ quiescent_ReferenceIdeal_pre_three_nearest_decided (hReferenceIdeal := hReferenceIdeal) (hPre_three_nearest_decided := hPre_three_nearest_decided)
    ∧ preserves_Kernel_KernelIdeal
    ∧ algebraic_KernelIdeal_ReferenceIdeal_pre_three_nearest_decided (hKernelIdeal := hKernelIdeal) (hReferenceIdeal := hReferenceIdeal) (hPre_three_nearest_decided := hPre_three_nearest_decided)
-- ==== Pre_three_nearest_decided.lean ====
abbrev S16x3x4096 : Shape := ⟨3, ![16, 3, 4096]⟩
abbrev S16x3x1024 : Shape := ⟨3, ![16, 3, 1024]⟩
abbrev S16x64x4096 : Shape := ⟨3, ![16, 64, 4096]⟩
abbrev S16x128x1024 : Shape := ⟨3, ![16, 128, 1024]⟩
abbrev S128x192 : Shape := ⟨2, ![128, 192]⟩
abbrev S128 : Shape := ⟨1, ![128]⟩
abbrev S128x128 : Shape := ⟨2, ![128, 128]⟩
abbrev S16x4096x3 : Shape := ⟨3, ![16, 4096, 3]⟩
abbrev S16x1024x3 : Shape := ⟨3, ![16, 1024, 3]⟩
abbrev S_ : Shape := ⟨0, ![]⟩
abbrev S16x4096 : Shape := ⟨2, ![16, 4096]⟩
abbrev S16x4096x1 : Shape := ⟨3, ![16, 4096, 1]⟩
abbrev S16x1024 : Shape := ⟨2, ![16, 1024]⟩
abbrev S16x1x1024 : Shape := ⟨3, ![16, 1, 1024]⟩
abbrev S16x4096x1024 : Shape := ⟨3, ![16, 4096, 1024]⟩
abbrev S16x4096x4 : Shape := ⟨3, ![16, 4096, 4]⟩

class Facts : Prop where
  transposes_S16x3x4096_S16x4096x3_0_2_1 : S16x3x4096.Transposes [0, 2, 1] S16x4096x3
  transposes_S16x3x1024_S16x1024x3_0_2_1 : S16x3x1024.Transposes [0, 2, 1] S16x1024x3
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  reducesTo_S16x1024x3_S16x1024_d2 : S16x1024x3.ReducesTo [2] S16x1024
  bcast_S16x1024_S16x1x1024_0_2 : S16x1024.BroadcastsInDim S16x1x1024 (![0, 2] : Fin 2 → Fin S16x1x1024.rank)
  bcast_S16x4096x1_S16x4096x1024_0_1_2 : S16x4096x1.BroadcastsInDim S16x4096x1024 (![0, 1, 2] : Fin 3 → Fin S16x4096x1024.rank)
  bcast_S16x1x1024_S16x4096x1024_0_1_2 : S16x1x1024.BroadcastsInDim S16x4096x1024 (![0, 1, 2] : Fin 3 → Fin S16x4096x1024.rank)
  bcast_S_S16x4096x1024 : S_.BroadcastsInDim S16x4096x1024 (![] : Fin 0 → Fin S16x4096x1024.rank)
  sliceFits_S16x4096x1024_S16x4096x4 : S16x4096x1024.Slices (fun _ => 0) S16x4096x4
  bcast_S_S16x3x1024 : S_.BroadcastsInDim S16x3x1024 (![] : Fin 0 → Fin S16x3x1024.rank)
  slices_S16x4096x4_S16x4096x3_0_0_0 : S16x4096x4.Slices ![0, 0, 0] S16x4096x3
  slices_S16x4096x4_S16x4096x3_0_0_1 : S16x4096x4.Slices ![0, 0, 1] S16x4096x3
  dot_S16x4096x3_S16x1024x3_S16x4096x1024_2_2_1_1_0_0_wf : DotDims.WF S16x4096x3 S16x1024x3 S16x4096x1024 [2] [2] [1] [1] [0] [0]

variable [Facts]

def dot_S16x4096x3_S16x1024x3_S16x4096x1024_2_2_1_1_0_0 : DotDims S16x4096x3 S16x1024x3 S16x4096x1024 where
  lhsContracting := [2]
  rhsContracting := [2]
  lhsNonContracting := [1]
  rhsNonContracting := [1]
  lhsBatch := [0]
  rhsBatch := [0]
  wf := dot_S16x4096x3_S16x1024x3_S16x4096x1024_2_2_1_1_0_0_wf
def fn_part1 {F : FTy → Type} [FloatOps F] (main_values : FVec F S16x4096x4 .f32) (main_v16 : FVec F S16x3x1024 .f32) (main_v17 : FVec F S16x3x1024 .f32) : IVec S16x3x1024 1 × IVec S16x4096x3 1 :=
  let main_v18 : IVec S16x3x1024 1 := cmpf .olt main_v16 main_v17
  let main_v19 : FVec F S16x4096x3 .f32 := (extractStridedSlice S16x4096x3 ![0, 0, 0] · slices_S16x4096x4_S16x4096x3_0_0_0) main_values
  let main_v20 : FVec F S16x4096x3 .f32 := (extractStridedSlice S16x4096x3 ![0, 0, 1] · slices_S16x4096x4_S16x4096x3_0_0_1) main_values
  let main_v21 : IVec S16x4096x3 1 := cmpf .ogt main_v19 main_v20
  (main_v18, main_v21)

def fn {F : FTy → Type} [FloatOps F] (main_arg0 : FVec F S16x3x4096 .f32) (main_arg1 : FVec F S16x3x1024 .f32) (main_arg2 : FVec F S16x64x4096 .f32) (main_arg3 : FVec F S16x128x1024 .f32) (main_arg4 : FVec F S128x192 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) : IVec S16x3x1024 1 × IVec S16x4096x3 1 :=
  let main_v0 : FVec F S16x4096x3 .f32 := (transpose S16x4096x3 [0, 2, 1] · transposes_S16x3x4096_S16x4096x3_0_2_1) main_arg0
  let main_v1 : FVec F S16x1024x3 .f32 := (transpose S16x1024x3 [0, 2, 1] · transposes_S16x3x1024_S16x1024x3_0_2_1) main_arg1
  let main_v2 : FVec F S16x4096x3 .f32 := mulf main_v0 main_v0
  let main_cst : FVec F S_ .f32 := constant S_ .f32 0x00000000#32
  let main_v3 : FVec F S16x4096 .f32 := (fun x v => Host.reduceAdd x v reducesTo_S16x4096x3_S16x4096_d2 h_S_) main_v2 main_cst
  let main_v4 : FVec F S16x4096x1 .f32 := broadcastInDim S16x4096x1 ![0, 1] bcast_S16x4096_S16x4096x1_0_1 main_v3
  let main_v5 : FVec F S16x1024x3 .f32 := mulf main_v1 main_v1
  let main_cst_0 : FVec F S_ .f32 := constant S_ .f32 0x00000000#32
  let main_v6 : FVec F S16x1024 .f32 := (fun x v => Host.reduceAdd x v reducesTo_S16x1024x3_S16x1024_d2 h_S_) main_v5 main_cst_0
  let main_v7 : FVec F S16x1x1024 .f32 := broadcastInDim S16x1x1024 ![0, 2] bcast_S16x1024_S16x1x1024_0_2 main_v6
  let main_v8 : FVec F S16x4096x1024 .f32 := broadcastInDim S16x4096x1024 ![0, 1, 2] bcast_S16x4096x1_S16x4096x1024_0_1_2 main_v4
  let main_v9 : FVec F S16x4096x1024 .f32 := broadcastInDim S16x4096x1024 ![0, 1, 2] bcast_S16x1x1024_S16x4096x1024_0_1_2 main_v7
  let main_v10 : FVec F S16x4096x1024 .f32 := addf main_v8 main_v9
  let main_v11 : FVec F S16x4096x1024 .f32 := (fun l r => Host.dotGeneral dot_S16x4096x3_S16x1024x3_S16x4096x1024_2_2_1_1_0_0 none l r) main_v0 main_v1
  let main_cst_1 : FVec F S_ .f32 := constant S_ .f32 0x40000000#32
  let main_v12 : FVec F S16x4096x1024 .f32 := broadcastInDim S16x4096x1024 ![] bcast_S_S16x4096x1024 main_cst_1
  let main_v13 : FVec F S16x4096x1024 .f32 := mulf main_v12 main_v11
  let main_v14 : FVec F S16x4096x1024 .f32 := subf main_v10 main_v13
  let main_v15 : FVec F S16x4096x1024 .f32 := Host.negf main_v14
  let main_values : FVec F S16x4096x4 .f32 := (fun x => (Host.topK S16x4096x4 2 (FloatOps.cmpfTotal .gt) x sliceFits_S16x4096x1024_S16x4096x4).1) main_v15
  let main_indices : IVec S16x4096x4 32 := (fun x => (Host.topK S16x4096x4 2 (FloatOps.cmpfTotal .gt) x sliceFits_S16x4096x1024_S16x4096x4).2) main_v15
  let main_v16 : FVec F S16x3x1024 .f32 := Host.absf main_arg1
  let main_cst_2 : FVec F S_ .f32 := constant S_ .f32 0x7F800000#32
  let main_v17 : FVec F S16x3x1024 .f32 := broadcastInDim S16x3x1024 ![] bcast_S_S16x3x1024 main_cst_2
  fn_part1 (F := F) main_values main_v16 main_v17
-- ==== Kernel.lean ====
abbrev S16x3x4096 : Shape := ⟨3, ![16, 3, 4096]⟩
abbrev S16x3x1024 : Shape := ⟨3, ![16, 3, 1024]⟩
abbrev S16x64x4096 : Shape := ⟨3, ![16, 64, 4096]⟩
abbrev S16x128x1024 : Shape := ⟨3, ![16, 128, 1024]⟩
abbrev S128x192 : Shape := ⟨2, ![128, 192]⟩
abbrev S128 : Shape := ⟨1, ![128]⟩
abbrev S128x128 : Shape := ⟨2, ![128, 128]⟩
abbrev S128x1 : Shape := ⟨2, ![128, 1]⟩
abbrev S16x128x4096 : Shape := ⟨3, ![16, 128, 4096]⟩
abbrev S16x128x2 : Shape := ⟨3, ![16, 128, 2]⟩
abbrev S1x3x4096 : Shape := ⟨3, ![1, 3, 4096]⟩
abbrev S1x3x1024 : Shape := ⟨3, ![1, 3, 1024]⟩
abbrev S1x64x4096 : Shape := ⟨3, ![1, 64, 4096]⟩
abbrev S1x128x1024 : Shape := ⟨3, ![1, 128, 1024]⟩
abbrev S1x128x4096 : Shape := ⟨3, ![1, 128, 4096]⟩
abbrev S1x128x2 : Shape := ⟨3, ![1, 128, 2]⟩
abbrev S3x4096 : Shape := ⟨2, ![3, 4096]⟩
abbrev S4096x3 : Shape := ⟨2, ![4096, 3]⟩
abbrev S3x1024 : Shape := ⟨2, ![3, 1024]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩
abbrev S4096x1024 : Shape := ⟨2, ![4096, 1024]⟩
abbrev S4096x128 : Shape := ⟨2, ![4096, 128]⟩
abbrev S128x1024 : Shape := ⟨2, ![128, 1024]⟩
abbrev S128x4096 : Shape := ⟨2, ![128, 4096]⟩
abbrev S64x4096 : Shape := ⟨2, ![64, 4096]⟩
abbrev S192x4096 : Shape := ⟨2, ![192, 4096]⟩
abbrev S128x2 : Shape := ⟨2, ![128, 2]⟩

abbrev nBuf : Space → Nat
  | .hbm => 23
  | .vmem => 32
  | .smem => 0
  | _ => 0

abbrev bufTy : (tb : Table) → Fin (tcTables nBuf tb) → BufTy
  | .hbm, ⟨0, _⟩ => ⟨S16x3x4096, .f32⟩
  | .hbm, ⟨1, _⟩ => ⟨S16x3x1024, .f32⟩
  | .hbm, ⟨2, _⟩ => ⟨S16x64x4096, .f32⟩
  | .hbm, ⟨3, _⟩ => ⟨S16x128x1024, .f32⟩
  | .hbm, ⟨4, _⟩ => ⟨S128x192, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S16x128x4096, .f32⟩
  | .hbm, ⟨19, _⟩ => ⟨S16x128x2, .f32⟩
  | .hbm, ⟨20, _⟩ => ⟨S16x128x4096, .f32⟩
  | .hbm, ⟨21, _⟩ => ⟨S16x128x2, .f32⟩
  | .hbm, ⟨22, _⟩ => ⟨S16x128x4096, .f32⟩
  | .local _ .vmem, ⟨0, _⟩ => ⟨S1x3x4096, .f32⟩
  | .local _ .vmem, ⟨1, _⟩ => ⟨S1x3x4096, .f32⟩
  | .local _ .vmem, ⟨2, _⟩ => ⟨S1x3x1024, .f32⟩
  | .local _ .vmem, ⟨3, _⟩ => ⟨S1x3x1024, .f32⟩
  | .local _ .vmem, ⟨4, _⟩ => ⟨S1x64x4096, .f32⟩
  | .local _ .vmem, ⟨5, _⟩ => ⟨S1x64x4096, .f32⟩
  | .local _ .vmem, ⟨6, _⟩ => ⟨S1x128x1024, .f32⟩
  | .local _ .vmem, ⟨7, _⟩ => ⟨S1x128x1024, .f32⟩
  | .local _ .vmem, ⟨8, _⟩ => ⟨S128x192, .f32⟩
  | .local _ .vmem, ⟨9, _⟩ => ⟨S128x1, .f32⟩
  | .local _ .vmem, ⟨10, _⟩ => ⟨S1x128x4096, .f32⟩
  | .local _ .vmem, ⟨11, _⟩ => ⟨S1x128x4096, .f32⟩
  | .local _ .vmem, ⟨12, _⟩ => ⟨S1x128x2, .f32⟩
  | .local _ .vmem, ⟨13, _⟩ => ⟨S1x128x2, .f32⟩
  | .local _ .vmem, ⟨14, _⟩ => ⟨S1x128x4096, .f32⟩
  | .local _ .vmem, ⟨15, _⟩ => ⟨S1x128x4096, .f32⟩
  | .local _ .vmem, ⟨16, _⟩ => ⟨S16x128x2, .f32⟩
  | .local _ .vmem, ⟨17, _⟩ => ⟨S128x1, .f32⟩
  | .local _ .vmem, ⟨18, _⟩ => ⟨S128x1, .f32⟩
  | .local _ .vmem, ⟨19, _⟩ => ⟨S128x128, .f32⟩
  | .local _ .vmem, ⟨20, _⟩ => ⟨S128x1, .f32⟩
  | .local _ .vmem, ⟨21, _⟩ => ⟨S1x128x4096, .f32⟩
  | .local _ .vmem, ⟨22, _⟩ => ⟨S1x128x4096, .f32⟩
  | .local _ .vmem, ⟨23, _⟩ => ⟨S1x128x2, .f32⟩
  | .local _ .vmem, ⟨24, _⟩ => ⟨S1x128x2, .f32⟩
  | .local _ .vmem, ⟨25, _⟩ => ⟨S1x128x4096, .f32⟩
  | .local _ .vmem, ⟨26, _⟩ => ⟨S1x128x4096, .f32⟩
  | .local _ .vmem, ⟨27, _⟩ => ⟨S16x128x2, .f32⟩
  | .local _ .vmem, ⟨28, _⟩ => ⟨S128x1, .f32⟩
  | .local _ .vmem, ⟨29, _⟩ => ⟨S128x1, .f32⟩
  | .local _ .vmem, ⟨30, _⟩ => ⟨S1x128x4096, .f32⟩
  | .local _ .vmem, ⟨31, _⟩ => ⟨S1x128x4096, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v121 : BitVec 1 := Scalar.cmpi .eq arg1 c0_i32
  let v122 : BitVec 32 := Scalar.extui v121
  let c0_i32_42 : BitVec 32 := 0#32
  let v123 : BitVec 1 := Scalar.cmpi .ne v122 c0_i32_42
  v123

def k0_cond2 (i : grid0.Coords) : BitVec 1 :=
  let arg1 : BitVec 32 := BitVec.ofNat 32 (i 1).val
  let c0_i32_43 : BitVec 32 := 0#32
  let v124 : BitVec 1 := Scalar.cmpi .ne arg1 c0_i32_43
  let v125 : BitVec 32 := Scalar.extui v124
  let c0_i32_44 : BitVec 32 := 0#32
  let v126 : BitVec 1 := Scalar.cmpi .ne v125 c0_i32_44
  v126

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![16, 1], ![false, false]⟩

def k1_cond1 (i : grid1.Coords) : BitVec 1 :=
  let arg1 : BitVec 32 := BitVec.ofNat 32 (i 1).val
  let c0_i32 : BitVec 32 := 0#32
  let v44 : BitVec 1 := Scalar.cmpi .eq arg1 c0_i32
  let v45 : BitVec 32 := Scalar.extui v44
  let c0_i32_23 : BitVec 32 := 0#32
  let v46 : BitVec 1 := Scalar.cmpi .ne v45 c0_i32_23
  v46

def k1_cond2 (i : grid1.Coords) : BitVec 1 :=
  let arg1 : BitVec 32 := BitVec.ofNat 32 (i 1).val
  let c0_i32_24 : BitVec 32 := 0#32
  let v47 : BitVec 1 := Scalar.cmpi .ne arg1 c0_i32_24
  let v48 : BitVec 32 := Scalar.extui v47
  let c0_i32_25 : BitVec 32 := 0#32
  let v49 : BitVec 1 := Scalar.cmpi .ne v48 c0_i32_25
  v49

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16x128x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x128x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![16, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x128x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S16x128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x128x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S16x3x4096 : Shape := ⟨3, ![16, 3, 4096]⟩
abbrev S16x3x1024 : Shape := ⟨3, ![16, 3, 1024]⟩
abbrev S16x64x4096 : Shape := ⟨3, ![16, 64, 4096]⟩
abbrev S16x128x1024 : Shape := ⟨3, ![16, 128, 1024]⟩
abbrev S128x192 : Shape := ⟨2, ![128, 192]⟩
abbrev S128 : Shape := ⟨1, ![128]⟩
abbrev S128x128 : Shape := ⟨2, ![128, 128]⟩
abbrev S16x4096x3 : Shape := ⟨3, ![16, 4096, 3]⟩
abbrev S16x1024x3 : Shape := ⟨3, ![16, 1024, 3]⟩
abbrev S_ : Shape := ⟨0, ![]⟩
abbrev S16x4096 : Shape := ⟨2, ![16, 4096]⟩
abbrev S16x4096x1 : Shape := ⟨3, ![16, 4096, 1]⟩
abbrev S16x1024 : Shape := ⟨2, ![16, 1024]⟩
abbrev S16x1x1024 : Shape := ⟨3, ![16, 1, 1024]⟩
abbrev S16x4096x1024 : Shape := ⟨3, ![16, 4096, 1024]⟩
abbrev S16x4096x3x1 : Shape := ⟨4, ![16, 4096, 3, 1]⟩
abbrev S16x128x4096x3 : Shape := ⟨4, ![16, 128, 4096, 3]⟩
abbrev S16x1x4096x3 : Shape := ⟨4, ![16, 1, 4096, 3]⟩
abbrev S16x128x4096 : Shape := ⟨3, ![16, 128, 4096]⟩
abbrev S16x192x4096 : Shape := ⟨3, ![16, 192, 4096]⟩
abbrev S16x4096x128 : Shape := ⟨3, ![16, 4096, 128]⟩
abbrev S1x128x1 : Shape := ⟨3, ![1, 128, 1]⟩

abbrev nBuf : Space → Nat
  | .hbm => 168
  | .vmem => 0
  | .smem => 0
  | _ => 0

abbrev hbmTy0_0 (i : Nat) : BufTy := match i % 128 with
  | 0 => ⟨S16x3x4096, .f32⟩
  | 1 => ⟨S16x3x1024, .f32⟩
  | 2 => ⟨S16x64x4096, .f32⟩
  | 3 => ⟨S16x128x1024, .f32⟩
  | 4 => ⟨S128x192, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S16x4096x3, .f32⟩
  | 13 => ⟨S16x1024x3, .f32⟩
  | 14 => ⟨S16x4096x3, .f32⟩
  | 15 => ⟨S_, .f32⟩
  | 16 => ⟨S16x4096, .f32⟩
  | 17 => ⟨S16x4096x1, .f32⟩
  | 18 => ⟨S16x1024x3, .f32⟩
  | 19 => ⟨S_, .f32⟩
  | 20 => ⟨S16x1024, .f32⟩
  | 21 => ⟨S16x1x1024, .f32⟩
  | 22 => ⟨S16x4096x1024, .f32⟩
  | 23 => ⟨S16x4096x1024, .f32⟩
  | 24 => ⟨S16x4096x1024, .f32⟩
  | 25 => ⟨S16x4096x1024, .f32⟩
  | 26 => ⟨S_, .f32⟩
  | 27 => ⟨S16x4096x1024, .f32⟩
  | 28 => ⟨S16x4096x1024, .f32⟩
  | 29 => ⟨S16x4096x1024, .f32⟩
  | 30 => ⟨S16x4096x1024, .f32⟩
  | 31 => ⟨S16x4096x3, .f32⟩
  | 32 => ⟨S16x4096x3, .i32⟩
  | 33 => ⟨S16x4096x3, .f32⟩
  | 34 => ⟨S_, .f32⟩
  | 35 => ⟨S16x4096x3, .f32⟩
  | 36 => ⟨S16x4096x3, .i1⟩
  | 37 => ⟨S_, .f32⟩
  | 38 => ⟨S_, .f32⟩
  | 39 => ⟨S16x4096x3, .f32⟩
  | 40 => ⟨S16x4096x3, .f32⟩
  | 41 => ⟨S_, .f32⟩
  | 42 => ⟨S16x4096x3, .f32⟩
  | 43 => ⟨S16x4096x3, .f32⟩
  | 44 => ⟨S_, .f32⟩
  | 45 => ⟨S16x4096, .f32⟩
  | 46 => ⟨S16x4096x1, .f32⟩
  | 47 => ⟨S16x4096x3, .f32⟩
  | 48 => ⟨S16x4096x3, .f32⟩
  | 49 => ⟨S_, .i32⟩
  | 50 => ⟨S16x4096x3, .i32⟩
  | 51 => ⟨S16x4096x3, .i1⟩
  | 52 => ⟨S_, .i32⟩
  | 53 => ⟨S16x4096x3, .i32⟩
  | 54 => ⟨S16x4096x3, .i32⟩
  | 55 => ⟨S16x4096x3, .i32⟩
  | 56 => ⟨S16x4096x3x1, .i32⟩
  | 57 => ⟨S16x128x4096x3, .f32⟩
  | 58 => ⟨S16x1x4096x3, .f32⟩
  | 59 => ⟨S16x128x4096x3, .f32⟩
  | 60 => ⟨S16x128x4096x3, .f32⟩
  | 61 => ⟨S_, .f32⟩
  | 62 => ⟨S16x128x4096, .f32⟩
  | 63 => ⟨S16x192x4096, .f32⟩
  | 64 => ⟨S16x4096x128, .f32⟩
  | 65 => ⟨S16x128x4096, .f32⟩
  | 66 => ⟨S1x128x1, .f32⟩
  | 67 => ⟨S16x128x4096, .f32⟩
  | 68 => ⟨S16x128x4096, .f32⟩
  | 69 => ⟨S_, .f32⟩
  | 70 => ⟨S128, .f32⟩
  | 71 => ⟨S1x128x1, .f32⟩
  | 72 => ⟨S_, .f32⟩
  | 73 => ⟨S1x128x1, .f32⟩
  | 74 => ⟨S1x128x1, .f32⟩
  | 75 => ⟨S_, .i32⟩
  | 76 => ⟨S_, .f32⟩
  | 77 => ⟨S128, .f32⟩
  | 78 => ⟨S1x128x1, .f32⟩
  | 79 => ⟨S_, .f32⟩
  | 80 => ⟨S1x128x1, .f32⟩
  | 81 => ⟨S1x128x1, .f32⟩
  | 82 => ⟨S16x128x4096, .f32⟩
  | 83 => ⟨S16x128x4096, .f32⟩
  | 84 => ⟨S16x128x4096, .f32⟩
  | 85 => ⟨S_, .f32⟩
  | 86 => ⟨S_, .f32⟩
  | 87 => ⟨S_, .f32⟩
  | 88 => ⟨S_, .f32⟩
  | 89 => ⟨S128, .f32⟩
  | 90 => ⟨S1x128x1, .f32⟩
  | 91 => ⟨S1x128x1, .f32⟩
  | 92 => ⟨S1x128x1, .f32⟩
  | 93 => ⟨S_, .f32⟩
  | 94 => ⟨S_, .i1⟩
  | 95 => ⟨S_, .f32⟩
  | 96 => ⟨S_, .f32⟩
  | 97 => ⟨S1x128x1, .f32⟩
  | 98 => ⟨S1x128x1, .f32⟩
  | 99 => ⟨S16x128x4096, .f32⟩
  | 100 => ⟨S16x128x4096, .f32⟩
  | 101 => ⟨S_, .f32⟩
  | 102 => ⟨S1x128x1, .f32⟩
  | 103 => ⟨S1x128x1, .f32⟩
  | 104 => ⟨S1x128x1, .f32⟩
  | 105 => ⟨S16x128x4096, .f32⟩
  | 106 => ⟨S16x128x4096, .f32⟩
  | 107 => ⟨S1x128x1, .f32⟩
  | 108 => ⟨S16x128x4096, .f32⟩
  | 109 => ⟨S16x128x4096, .f32⟩
  | 110 => ⟨S1x128x1, .f32⟩
  | 111 => ⟨S16x128x4096, .f32⟩
  | 112 => ⟨S16x128x4096, .f32⟩
  | 113 => ⟨S_, .f32⟩
  | 114 => ⟨S16x128x4096, .f32⟩
  | 115 => ⟨S16x128x4096, .f32⟩
  | 116 => ⟨S16x4096x128, .f32⟩
  | 117 => ⟨S16x128x4096, .f32⟩
  | 118 => ⟨S1x128x1, .f32⟩
  | 119 => ⟨S16x128x4096, .f32⟩
  | 120 => ⟨S16x128x4096, .f32⟩
  | 121 => ⟨S_, .f32⟩
  | 122 => ⟨S128, .f32⟩
  | 123 => ⟨S1x128x1, .f32⟩
  | 124 => ⟨S_, .f32⟩
  | 125 => ⟨S1x128x1, .f32⟩
  | 126 => ⟨S1x128x1, .f32⟩
  | 127 => ⟨S_, .i32⟩
  | _ => ⟨S16x3x4096, .f32⟩

abbrev hbmTy0_1 (i : Nat) : BufTy := match i % 128 with
  | 0 => ⟨S_, .f32⟩
  | 1 => ⟨S128, .f32⟩
  | 2 => ⟨S1x128x1, .f32⟩
  | 3 => ⟨S_, .f32⟩
  | 4 => ⟨S1x128x1, .f32⟩
  | 5 => ⟨S1x128x1, .f32⟩
  | 6 => ⟨S16x128x4096, .f32⟩
  | 7 => ⟨S16x128x4096, .f32⟩
  | 8 => ⟨S16x128x4096, .f32⟩
  | 9 => ⟨S_, .f32⟩
  | 10 => ⟨S_, .f32⟩
  | 11 => ⟨S_, .f32⟩
  | 12 => ⟨S_, .f32⟩
  | 13 => ⟨S128, .f32⟩
  | 14 => ⟨S1x128x1, .f32⟩
  | 15 => ⟨S1x128x1, .f32⟩
  | 16 => ⟨S1x128x1, .f32⟩
  | 17 => ⟨S_, .f32⟩
  | 18 => ⟨S_, .i1⟩
  | 19 => ⟨S_, .f32⟩
  | 20 => ⟨S_, .f32⟩
  | 21 => ⟨S1x128x1, .f32⟩
  | 22 => ⟨S1x128x1, .f32⟩
  | 23 => ⟨S16x128x4096, .f32⟩
  | 24 => ⟨S16x128x4096, .f32⟩
  | 25 => ⟨S_, .f32⟩
  | 26 => ⟨S1x128x1, .f32⟩
  | 27 => ⟨S1x128x1, .f32⟩
  | 28 => ⟨S1x128x1, .f32⟩
  | 29 => ⟨S16x128x4096, .f32⟩
  | 30 => ⟨S16x128x4096, .f32⟩
  | 31 => ⟨S1x128x1, .f32⟩
  | 32 => ⟨S16x128x4096, .f32⟩
  | 33 => ⟨S16x128x4096, .f32⟩
  | 34 => ⟨S1x128x1, .f32⟩
  | 35 => ⟨S16x128x4096, .f32⟩
  | 36 => ⟨S16x128x4096, .f32⟩
  | 37 => ⟨S_, .f32⟩
  | 38 => ⟨S16x128x4096, .f32⟩
  | 39 => ⟨S16x128x4096, .f32⟩
  | _ => ⟨S16x3x4096, .f32⟩

abbrev hbmTy (i : Nat) : BufTy := match i / 128 with
  | 0 => hbmTy0_0 i
  | 1 => hbmTy0_1 i
  | _ => ⟨S16x3x4096, .f32⟩

abbrev bufTy : (tb : Table) → Fin (tcTables nBuf tb) → BufTy
  | .hbm, ⟨i, _⟩ => hbmTy i
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_values : Ref sig .tc := ⟨.hbm, 31, rfl⟩
abbrev main_indices : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_cst_3 : Ref sig .tc := ⟨.hbm, 93, rfl⟩
abbrev main_call1_v13 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_cst_11 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_call2_cst : Ref sig .tc := ⟨.hbm, 113, rfl⟩
abbrev main_call2_v0 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_12 : Ref sig .tc := ⟨.hbm, 121, rfl⟩
abbrev main_v67 : Ref sig .tc := ⟨.hbm, 122, rfl⟩
abbrev main_v68 : Ref sig .tc := ⟨.hbm, 123, rfl⟩
abbrev main_cst_13 : Ref sig .tc := ⟨.hbm, 124, rfl⟩
abbrev main_v69 : Ref sig .tc := ⟨.hbm, 125, rfl⟩
abbrev main_v70 : Ref sig .tc := ⟨.hbm, 126, rfl⟩
abbrev main_c_14 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_cst_3 : Ref sig .tc := ⟨.hbm, 145, rfl⟩
abbrev main_call3_v13 : Ref sig .tc := ⟨.hbm, 146, rfl⟩
abbrev main_call3_cst_4 : Ref sig .tc := ⟨.hbm, 147, rfl⟩
abbrev main_call3_call0_v0 : Ref sig .tc := ⟨.hbm, 148, rfl⟩
abbrev main_call3_call0_v1 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_cst_15 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_call4_cst : Ref sig .tc := ⟨.hbm, 165, rfl⟩
abbrev main_call4_v0 : Ref sig .tc := ⟨.hbm, 166, rfl⟩
abbrev main_v85 : Ref sig .tc := ⟨.hbm, 167, rfl⟩

abbrev nD : Nat := 1
abbrev τ : Topo := Topo.v7x

variable {F : FTy → Type} [FloatOps F]
-- ==== Proof.KernelRun.lean ====
/- The launch, read at its result: the launch's set-up, ending with what the result buffer holds. -/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every run of the kernel ends with the result buffer at the last boundary's contents and the arguments unchanged. -/
theorem run : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.Proof.KernelRun

end
-- ==== Proof.KernelValue.lean ====
/- What the three launches leave in their arrays, each output array read as one function of the arrays the launch finds. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof.KernelValue

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- One batch of a three-axis array, as a block with a leading axis of size one. -/
def slab {n k l : Nat} {A : Type} (x : (⟨3, ![n, k, l]⟩ : Shape).Idx → A) (b : Fin n) : (⟨3, ![1, k, l]⟩ : Shape).Idx → A :=
  fun j => x (ix3 b (j 1) (j 2))

/-- The first layer's block before its statistics, from one batch's input blocks. -/
def y1 (x0 : Vec F S1x3x4096 .f32) (x1 : Vec F S1x3x1024 .f32) (x2 : Vec F S1x64x4096 .f32) (x3 : Vec F S1x128x1024 .f32)
    (x4 : Vec F S128x192 .f32) (x5 : Vec F S128x1 .f32) : FVec F S128x4096 .f32 :=
  k0_pay36 (k0_pay1 x0 x1)
    (k0_pay33 (k0_pay17 x0 x1) (k0_pay18 x0 x1) (k0_pay22 x0 x1) (k0_pay23 x0 x1) (k0_pay24 x0 x1) (k0_pay25 x0 x1))
    (k0_pay34 (k0_pay1 x0 x1))
    (k0_pay35 (k0_pay17 x0 x1) (k0_pay18 x0 x1) (k0_pay22 x0 x1) (k0_pay23 x0 x1) (k0_pay24 x0 x1) (k0_pay25 x0 x1))
    x3 x2 x4 x5

/-- A block given a leading axis of size one, read at an index. -/
theorem drop_wide {A : Type} (z : S128x4096.Idx → A) (h : S128x4096.ShapeCasts S1x128x4096) (y : S1x128x4096.Idx) :
    shapeCast S1x128x4096 z h y = z (ix2 (y 1) (y 2)) := by
  idx_vars y
  pointwise

/-- A statistics block given a leading axis of size one, read at an index. -/
theorem drop_pair {A : Type} (z : S128x2.Idx → A) (h : S128x2.ShapeCasts S1x128x2) (y : S1x128x2.Idx) :
    shapeCast S1x128x2 z h y = z (ix2 (y 1) (y 2)) := by
  idx_vars y
  pointwise

theorem pay37_apply (v19 : FVec F S4096x1024 .f32) (v87 : FVec F S4096x1 .f32) (v91 : FVec F S4096x1024 .f32) (v92 : FVec F S4096x1024 .f32)
    (v100 : Vec F S1x128x1024 .f32) (v103 : Vec F S1x64x4096 .f32) (v106 : Vec F S128x192 .f32) (v108 : Vec F S128x1 .f32)
    (y : S1x128x4096.Idx) : k0_pay37 v19 v87 v91 v92 v100 v103 v106 v108 y = k0_pay36 v19 v87 v91 v92 v100 v103 v106 v108 (ix2 (y 1) (y 2)) :=
  drop_wide (k0_pay36 v19 v87 v91 v92 v100 v103 v106 v108) shapeCasts_S128x4096_S1x128x4096 y

theorem pay39_apply (v19 : FVec F S4096x1024 .f32) (v87 : FVec F S4096x1 .f32) (v91 : FVec F S4096x1024 .f32) (v92 : FVec F S4096x1024 .f32)
    (v100 : Vec F S1x128x1024 .f32) (v103 : Vec F S1x64x4096 .f32) (v106 : Vec F S128x192 .f32) (v108 : Vec F S128x1 .f32)
    (y : S1x128x2.Idx) : k0_pay39 v19 v87 v91 v92 v100 v103 v106 v108 y
      = k1_pay2 (k0_pay36 v19 v87 v91 v92 v100 v103 v106 v108) (ix2 (y 1) (y 2)) :=
  drop_pair (k0_pay38 v19 v87 v91 v92 v100 v103 v106 v108) shapeCasts_S128x2_S1x128x2 y

theorem pay1_apply (z : FVec F S128x4096 .f32) (y : S1x128x4096.Idx) : k1_pay1 z y = z (ix2 (y 1) (y 2)) :=
  drop_wide z shapeCasts_S128x4096_S1x128x4096 y

theorem pay3_apply (z : FVec F S128x4096 .f32) (y : S1x128x2.Idx) : k1_pay3 z y = k1_pay2 z (ix2 (y 1) (y 2)) :=
  drop_pair (k1_pay2 z) shapeCasts_S128x2_S1x128x2 y

theorem lead_one {A : Type} {n k : Nat} (f : (⟨3, ![1, n, k]⟩ : Shape).Idx → A) (y : (⟨3, ![1, n, k]⟩ : Shape).Idx) :
    f y = f (ix3 0 (y 1) (y 2)) := by
  rw [← Subsingleton.elim (α := Fin 1) (y 0) 0, ix3_eta]

/-- The batch a grid point of launch 0 works on. -/
def bat0 (t : Fin cfg0.N) : Fin 16 := grid0.coords t 0

theorem idx0_0 (t : Fin cfg0.N) : win0_0.index t = ![(bat0 t).val, 0, 0] := by
  revert t; decide +kernel

theorem iblk0_0 (c : Dev nD) (t : Fin cfg0.N) : iblk0 V c 0 t = slab (V c main_arg0) (bat0 t) := by
  funext j
  have e := idx0_0 t
  blk_simp [iblk0, e]
  unfold slab
  blk_ext [e]

theorem idx0_1 (t : Fin cfg0.N) : win0_1.index t = ![(bat0 t).val, 0, 0] := by
  revert t; decide +kernel

theorem iblk0_1 (c : Dev nD) (t : Fin cfg0.N) : iblk0 V c 1 t = slab (V c main_arg1) (bat0 t) := by
  funext j
  have e := idx0_1 t
  blk_simp [iblk0, e]
  unfold slab
  blk_ext [e]

theorem idx0_2 (t : Fin cfg0.N) : win0_2.index t = ![(bat0 t).val, 0, 0] := by
  revert t; decide +kernel

theorem iblk0_2 (c : Dev nD) (t : Fin cfg0.N) : iblk0 V c 2 t = slab (V c main_arg2) (bat0 t) := by
  funext j
  have e := idx0_2 t
  blk_simp [iblk0, e]
  unfold slab
  blk_ext [e]

theorem idx0_3 (t : Fin cfg0.N) : win0_3.index t = ![(bat0 t).val, 0, 0] := by
  revert t; decide +kernel

theorem iblk0_3 (c : Dev nD) (t : Fin cfg0.N) : iblk0 V c 3 t = slab (V c main_arg3) (bat0 t) := by
  funext j
  have e := idx0_3 t
  blk_simp [iblk0, e]
  unfold slab
  blk_ext [e]

theorem idx0_4 (t : Fin cfg0.N) : win0_4.index t = ![0, 0] := by
  revert t; decide +kernel

theorem iblk0_4 (c : Dev nD) (t : Fin cfg0.N) : iblk0 V c 4 t = V c main_arg4 := by
  funext j
  have e := idx0_4 t
  blk_simp [iblk0, e]
  blk_ext [e]

theorem idx0_5 (t : Fin cfg0.N) : win0_5.index t = ![0, 0] := by
  revert t; decide +kernel

theorem iblk0_5 (c : Dev nD) (t : Fin cfg0.N) : iblk0 V c 5 t = V c main_v0 := by
  funext j
  have e := idx0_5 t
  blk_simp [iblk0, e]
  blk_ext [e]

theorem idx0_6 (t : Fin cfg0.N) : win0_6.index t = ![(bat0 t).val, 0, 0] := by
  revert t; decide +kernel

theorem emb0_6 (t : Fin cfg0.N) (y : S1x128x4096.Idx) :
    ((View.whole main_v6_0).slice (win0_6.rect t)).emb y = ix3 (bat0 t) (y 1) (y 2) := by
  have e := idx0_6 t
  blk_ext [e]

theorem idx0_7 (t : Fin cfg0.N) : win0_7.index t = ![(bat0 t).val, 0, 0] := by
  revert t; decide +kernel

theorem emb0_7 (t : Fin cfg0.N) (y : S1x128x2.Idx) :
    ((View.whole main_v6_1).slice (win0_7.rect t)).emb y = ix3 (bat0 t) (y 1) (y 2) := by
  have e := idx0_7 t
  blk_ext [e]

/-- What launch 0 leaves in its first output array. -/
theorem y1_array (c : Dev nD) : (dat0 V c).arrAt 6 cfg0.N = fun i => y1 (slab (V c main_arg0) (i 0)) (slab (V c main_arg1) (i 0))
    (slab (V c main_arg2) (i 0)) (slab (V c main_arg3) (i 0)) (V c main_arg4) (V c main_v0) (ix2 (i 1) (i 2)) := by
  refine (dat0 V c).arrAt_eq_of_covers 6 _ (by decide +kernel) fun t hf y => ?_
  blk_simp
  rw [after0_6]
  unfold outsAt0
  dsimp only
  frame_out
  rw [emb0_6, iblk0_0, iblk0_1, iblk0_2, iblk0_3, iblk0_4, iblk0_5]
  exact pay37_apply _ _ _ _ _ _ _ _ y

/-- What launch 0 leaves in its second output array: per batch and channel the sum, then the sum of squares. -/
theorem stats1_array (c : Dev nD) : (dat0 V c).arrAt 7 cfg0.N = fun i => k1_pay2 (y1 (slab (V c main_arg0) (i 0)) (slab (V c main_arg1) (i 0))
    (slab (V c main_arg2) (i 0)) (slab (V c main_arg3) (i 0)) (V c main_arg4) (V c main_v0)) (ix2 (i 1) (i 2)) := by
  refine (dat0 V c).arrAt_eq_of_covers 7 _ (by decide +kernel) fun t hf y => ?_
  blk_simp
  rw [after0_7]
  unfold outsAt0
  dsimp only
  frame_out
  rw [emb0_7, iblk0_0, iblk0_1, iblk0_2, iblk0_3, iblk0_4, iblk0_5]
  exact pay39_apply _ _ _ _ _ _ _ _ y

/-- The batch a grid point of launch 1 works on. -/
def bat1 (t : Fin cfg1.N) : Fin 16 := grid1.coords t 0

theorem idx1_0 (t : Fin cfg1.N) : win1_0.index t = ![(bat1 t).val, 0, 0] := by
  revert t; decide +kernel

theorem iblk1_0 (c : Dev nD) (t : Fin cfg1.N) : iblk1 V c 0 t = slab (V c main_v6_0) (bat1 t) := by
  funext j
  have e := idx1_0 t
  blk_simp [iblk1, e]
  unfold slab
  blk_ext [e]

theorem idx1_1 (t : Fin cfg1.N) : win1_1.index t = ![0, 0, 0] := by
  revert t; decide +kernel

theorem iblk1_1 (c : Dev nD) (t : Fin cfg1.N) : iblk1 V c 1 t = V c main_v6_1 := by
  funext j
  have e := idx1_1 t
  blk_simp [iblk1, e]
  blk_ext [e]

theorem idx1_2 (t : Fin cfg1.N) : win1_2.index t = ![0, 0] := by
  revert t; decide +kernel

theorem iblk1_2 (c : Dev nD) (t : Fin cfg1.N) : iblk1 V c 2 t = V c main_v1 := by
  funext j
  have e := idx1_2 t
  blk_simp [iblk1, e]
  blk_ext [e]

theorem idx1_3 (t : Fin cfg1.N) : win1_3.index t = ![0, 0] := by
  revert t; decide +kernel

theorem iblk1_3 (c : Dev nD) (t : Fin cfg1.N) : iblk1 V c 3 t = V c main_v2 := by
  funext j
  have e := idx1_3 t
  blk_simp [iblk1, e]
  blk_ext [e]

theorem idx1_4 (t : Fin cfg1.N) : win1_4.index t = ![0, 0] := by
  revert t; decide +kernel

theorem iblk1_4 (c : Dev nD) (t : Fin cfg1.N) : iblk1 V c 4 t = V c main_arg8 := by
  funext j
  have e := idx1_4 t
  blk_simp [iblk1, e]
  blk_ext [e]

theorem idx1_5 (t : Fin cfg1.N) : win1_5.index t = ![0, 0] := by
  revert t; decide +kernel

theorem iblk1_5 (c : Dev nD) (t : Fin cfg1.N) : iblk1 V c 5 t = V c main_v3 := by
  funext j
  have e := idx1_5 t
  blk_simp [iblk1, e]
  blk_ext [e]

theorem idx1_6 (t : Fin cfg1.N) : win1_6.index t = ![(bat1 t).val, 0, 0] := by
  revert t; decide +kernel

theorem emb1_6 (t : Fin cfg1.N) (y : S1x128x4096.Idx) :
    ((View.whole main_v7_0).slice (win1_6.rect t)).emb y = ix3 (bat1 t) (y 1) (y 2) := by
  have e := idx1_6 t
  blk_ext [e]

theorem idx1_7 (t : Fin cfg1.N) : win1_7.index t = ![(bat1 t).val, 0, 0] := by
  revert t; decide +kernel

theorem emb1_7 (t : Fin cfg1.N) (y : S1x128x2.Idx) :
    ((View.whole main_v7_1).slice (win1_7.rect t)).emb y = ix3 (bat1 t) (y 1) (y 2) := by
  have e := idx1_7 t
  blk_ext [e]

/-- What launch 1 leaves in its first output array. -/
theorem y2_array (c : Dev nD) : (dat1 V c).arrAt 6 cfg1.N = fun i => k1_pay5 (V c main_v6_1) (V c main_v1) (slab (V c main_v6_0) (i 0)) (V c main_v2) (V c main_arg8) (V c main_v3) (ix2 (i 1) (i 2)) := by
  refine (dat1 V c).arrAt_eq_of_covers 6 _ (by decide +kernel) fun t hf y => ?_
  blk_simp
  rw [after1_6]
  unfold outsAt1
  dsimp only
  frame_out
  rw [emb1_6, iblk1_0, iblk1_1, iblk1_2, iblk1_3, iblk1_4, iblk1_5]
  exact pay1_apply _ y

/-- What launch 1 leaves in its second output array: per batch and channel the sum, then the sum of squares. -/
theorem stats2_array (c : Dev nD) : (dat1 V c).arrAt 7 cfg1.N = fun i => k1_pay2 (k1_pay5 (V c main_v6_1) (V c main_v1) (slab (V c main_v6_0) (i 0)) (V c main_v2) (V c main_arg8) (V c main_v3)) (ix2 (i 1) (i 2)) := by
  refine (dat1 V c).arrAt_eq_of_covers 7 _ (by decide +kernel) fun t hf y => ?_
  blk_simp
  rw [after1_7]
  unfold outsAt1
  dsimp only
  frame_out
  rw [emb1_7, iblk1_0, iblk1_1, iblk1_2, iblk1_3, iblk1_4, iblk1_5]
  exact pay3_apply _ y

/-- The batch a grid point of launch 2 works on. -/
def bat2 (t : Fin cfg2.N) : Fin 16 := grid2.coords t 0

theorem idx2_0 (t : Fin cfg2.N) : win2_0.index t = ![(bat2 t).val, 0, 0] := by
  revert t; decide +kernel

theorem iblk2_0 (c : Dev nD) (t : Fin cfg2.N) : iblk2 V c 0 t = slab (V c main_v7_0) (bat2 t) := by
  funext j
  have e := idx2_0 t
  blk_simp [iblk2, e]
  unfold slab
  blk_ext [e]

theorem idx2_1 (t : Fin cfg2.N) : win2_1.index t = ![0, 0, 0] := by
  revert t; decide +kernel

theorem iblk2_1 (c : Dev nD) (t : Fin cfg2.N) : iblk2 V c 1 t = V c main_v7_1 := by
  funext j
  have e := idx2_1 t
  blk_simp [iblk2, e]
  blk_ext [e]

theorem idx2_2 (t : Fin cfg2.N) : win2_2.index t = ![0, 0] := by
  revert t; decide +kernel

theorem iblk2_2 (c : Dev nD) (t : Fin cfg2.N) : iblk2 V c 2 t = V c main_v4 := by
  funext j
  have e := idx2_2 t
  blk_simp [iblk2, e]
  blk_ext [e]

theorem idx2_3 (t : Fin cfg2.N) : win2_3.index t = ![0, 0] := by
  revert t; decide +kernel

theorem iblk2_3 (c : Dev nD) (t : Fin cfg2.N) : iblk2 V c 3 t = V c main_v5 := by
  funext j
  have e := idx2_3 t
  blk_simp [iblk2, e]
  blk_ext [e]

theorem idx2_4 (t : Fin cfg2.N) : win2_4.index t = ![(bat2 t).val, 0, 0] := by
  revert t; decide +kernel

theorem emb2_4 (t : Fin cfg2.N) (y : S1x128x4096.Idx) :
    ((View.whole main_v8).slice (win2_4.rect t)).emb y = ix3 (bat2 t) (y 1) (y 2) := by
  have e := idx2_4 t
  blk_ext [e]

/-- What the last launch leaves in the result array. -/
theorem result_array (c : Dev nD) : (dat2 V c).arrAt 4 cfg2.N = fun i => k2_pay1 (V c main_v7_1) (V c main_v4) (slab (V c main_v7_0) (i 0)) (V c main_v5) (ix3 0 (i 1) (i 2)) := by
  refine (dat2 V c).arrAt_eq_of_covers 4 _ (by decide +kernel) fun t hf y => ?_
  blk_simp
  rw [after2_4]
  frame_out
  rw [emb2_4, iblk2_0, iblk2_1, iblk2_2, iblk2_3]
  exact lead_one (k2_pay1 _ _ _ _) y

end Cert.Proof.KernelValue

end
-- ==== Proof.Select.lean ====
/-
  The kernel's choice of the three nearest points: a row of 1024 distances is read as 128 lanes of eight, a network of
  minima and maxima gives each lane's three least values, and three rounds of lane minima give the row's three least.
-/
module

public import Idealize.ShloMosaic.PureOps.Ideal
public import Mathlib.Algebra.BigOperators.Fin
public import Mathlib.Algebra.BigOperators.Ring.Finset
public import Mathlib.Data.Finset.Card
public import Mathlib.Tactic.FinCases

@[expose] public section

noncomputable section

namespace Cert.Proof.Select

/-! ## The network on eight values -/

section network

variable {α : Type} [LinearOrder α]

/-- The least of two pairs, of four values. -/
def lo4 (a b c d : α) : α := min (min a b) (min c d)
/-- The second of four. -/
def mid4 (a b c d : α) : α := min (max (min a b) (min c d)) (min (max a b) (max c d))
/-- The third of four. -/
def hi4 (a b c d : α) : α := max (max (min a b) (min c d)) (min (max a b) (max c d))

/-- The least of eight. -/
def first (a : Fin 8 → α) : α := min (lo4 (a 0) (a 1) (a 2) (a 3)) (lo4 (a 4) (a 5) (a 6) (a 7))
/-- The second of eight. -/
def second (a : Fin 8 → α) : α :=
  min (max (lo4 (a 0) (a 1) (a 2) (a 3)) (lo4 (a 4) (a 5) (a 6) (a 7)))
    (min (mid4 (a 0) (a 1) (a 2) (a 3)) (mid4 (a 4) (a 5) (a 6) (a 7)))
/-- The third of eight. -/
def third (a : Fin 8 → α) : α :=
  min (max (max (lo4 (a 0) (a 1) (a 2) (a 3)) (lo4 (a 4) (a 5) (a 6) (a 7)))
      (min (mid4 (a 0) (a 1) (a 2) (a 3)) (mid4 (a 4) (a 5) (a 6) (a 7))))
    (min (hi4 (a 0) (a 1) (a 2) (a 3)) (hi4 (a 4) (a 5) (a 6) (a 7)))

/-- How many of eight flags are set. -/
def count (p : Fin 8 → Bool) : ℕ := ∑ i, (p i).toNat

theorem count_eq (p : Fin 8 → Bool) : count p = (Finset.univ.filter fun i => p i = true).card := by
  rw [Finset.card_filter]
  unfold count
  exact Finset.sum_congr rfl fun i _ => by cases p i <;> rfl

/-- The network over flags, its minima read as "or" and its maxima as "and", counts the flags. -/
theorem flags : ∀ a b c d e f g h : Bool,
    ((((a || b) || (c || d)) || ((e || f) || (g || h))) = true ↔ 1 ≤ count ![a, b, c, d, e, f, g, h])
    ∧ (((((a || b) || (c || d)) && ((e || f) || (g || h)))
        || (((((a || b) && (c || d)) || ((a && b) || (c && d)))) || ((((e || f) && (g || h)) || ((e && f) || (g && h)))))) = true
      ↔ 2 ≤ count ![a, b, c, d, e, f, g, h])
    ∧ ((((((a || b) || (c || d)) && ((e || f) || (g || h)))
        && (((((a || b) && (c || d)) || ((a && b) || (c && d)))) || ((((e || f) && (g || h)) || ((e && f) || (g && h))))))
        || (((((a || b) && (c || d)) && ((a && b) || (c && d)))) || ((((e || f) && (g || h)) && ((e && f) || (g && h)))))) = true
      ↔ 3 ≤ count ![a, b, c, d, e, f, g, h]) := by
  decide +kernel

/-- The values of a lane that are at most `x`. -/
def below (a : Fin 8 → α) (x : α) : Finset (Fin 8) := Finset.univ.filter fun i => a i ≤ x

theorem below_card (a : Fin 8 → α) (x : α) :
    (below a x).card = count ![decide (a 0 ≤ x), decide (a 1 ≤ x), decide (a 2 ≤ x), decide (a 3 ≤ x),
      decide (a 4 ≤ x), decide (a 5 ≤ x), decide (a 6 ≤ x), decide (a 7 ≤ x)] := by
  rw [count_eq]
  unfold below
  congr 1
  ext i
  fin_cases i <;> simp

theorem first_le (a : Fin 8 → α) (x : α) : first a ≤ x ↔ 1 ≤ (below a x).card := by
  rw [below_card, ← (flags _ _ _ _ _ _ _ _).1]
  simp only [first, lo4, min_le_iff, max_le_iff, Bool.or_eq_true, Bool.and_eq_true, decide_eq_true_eq]

theorem second_le (a : Fin 8 → α) (x : α) : second a ≤ x ↔ 2 ≤ (below a x).card := by
  rw [below_card, ← (flags _ _ _ _ _ _ _ _).2.1]
  simp only [second, lo4, mid4, min_le_iff, max_le_iff, Bool.or_eq_true, Bool.and_eq_true, decide_eq_true_eq]

theorem third_le (a : Fin 8 → α) (x : α) : third a ≤ x ↔ 3 ≤ (below a x).card := by
  rw [below_card, ← (flags _ _ _ _ _ _ _ _).2.2]
  simp only [third, lo4, mid4, hi4, min_le_iff, max_le_iff, Bool.or_eq_true, Bool.and_eq_true, decide_eq_true_eq]

end network

/-! ## The three rounds over the lanes -/

/-- The place of lane `l`'s entry `i` in the row. -/
def at' (i : Fin 8) (l : Fin 128) : Fin 1024 := ⟨128 * i.val + l.val, by omega⟩

theorem at'_inj {i j : Fin 8} {l k : Fin 128} (h : at' i l = at' j k) : i = j ∧ l = k := by
  have := congrArg Fin.val h
  simp only [at'] at this
  constructor <;> apply Fin.ext <;> omega

theorem at'_surj (s : Fin 1024) : ∃ i l, at' i l = s :=
  ⟨⟨s.val / 128, by omega⟩, ⟨s.val % 128, by omega⟩, Fin.ext (by simp only [at']; omega)⟩

/-- The least value over the lanes. -/
def laneMin (f : Fin 128 → EReal) : EReal := Finset.univ.fold min ⊤ f

theorem laneMin_eq {f : Fin 128 → EReal} {v : EReal} (hle : ∀ l, v ≤ f l) (hat : ∃ l, f l ≤ v) : laneMin f = v := by
  apply le_antisymm
  · obtain ⟨l, hl⟩ := hat
    exact Finset.fold_min_le _ |>.mpr (.inr ⟨l, Finset.mem_univ l, hl⟩)
  · exact Finset.le_fold_min _ |>.mpr ⟨le_top, fun l _ => hle l⟩

section rounds

variable (d : Fin 1024 → EReal)

/-- Lane `l` of the row. -/
def lane (l : Fin 128) : Fin 8 → EReal := fun i => d (at' i l)

/-- The least distance. -/
def m1 : EReal := laneMin fun l => first (lane d l)
/-- The lanes after the first round: the lane of the least distance shows its second value. -/
def k1 (l : Fin 128) : EReal := if first (lane d l) = m1 d then second (lane d l) else first (lane d l)
/-- The second distance. -/
def m2 : EReal := laneMin (k1 d)
/-- The lanes after the second round. -/
def k2 (l : Fin 128) : EReal :=
  if k1 d l = m2 d then (if first (lane d l) = m1 d then third (lane d l) else second (lane d l)) else k1 d l
/-- The third distance. -/
def m3 : EReal := laneMin (k2 d)

end rounds

/-- `s 0`, `s 1`, `s 2` are the three nearest places of the row, in order, each strictly nearer than the next. -/
structure Nearest (d : Fin 1024 → EReal) (s0 s1 s2 : Fin 1024) : Prop where
  lt01 : d s0 < d s1
  lt12 : d s1 < d s2
  rest : ∀ s, s ≠ s0 → s ≠ s1 → s ≠ s2 → d s2 < d s

namespace Nearest

variable {d : Fin 1024 → EReal} {s0 s1 s2 : Fin 1024} (h : Nearest d s0 s1 s2)
include h

theorem le0 (s : Fin 1024) : d s0 ≤ d s := by
  by_cases e0 : s = s0; · rw [e0]
  by_cases e1 : s = s1; · rw [e1]; exact h.lt01.le
  by_cases e2 : s = s2; · rw [e2]; exact (h.lt01.trans h.lt12).le
  exact ((h.lt01.trans h.lt12).trans (h.rest s e0 e1 e2)).le

theorem le1 {s : Fin 1024} (e0 : s ≠ s0) : d s1 ≤ d s := by
  by_cases e1 : s = s1; · rw [e1]
  by_cases e2 : s = s2; · rw [e2]; exact h.lt12.le
  exact (h.lt12.trans (h.rest s e0 e1 e2)).le

theorem le2 {s : Fin 1024} (e0 : s ≠ s0) (e1 : s ≠ s1) : d s2 ≤ d s := by
  by_cases e2 : s = s2; · rw [e2]
  exact (h.rest s e0 e1 e2).le

theorem eq0 {s : Fin 1024} (hs : d s ≤ d s0) : s = s0 := by
  by_contra e0
  exact absurd (h.lt01.trans_le (h.le1 e0)) (not_lt.mpr hs)

theorem eq1 {s : Fin 1024} (e0 : s ≠ s0) (hs : d s ≤ d s1) : s = s1 := by
  by_contra e1
  exact absurd (h.lt12.trans_le (h.le2 e0 e1)) (not_lt.mpr hs)

theorem le_iff (s : Fin 1024) : d s ≤ d s2 ↔ s = s0 ∨ s = s1 ∨ s = s2 := by
  constructor
  · intro hs
    by_contra hc
    push Not at hc
    exact absurd (h.rest s hc.1 hc.2.1 hc.2.2) (not_lt.mpr hs)
  · rintro (rfl | rfl | rfl)
    · exact (h.lt01.trans h.lt12).le
    · exact h.lt12.le
    · exact le_rfl

theorem ne01 : s0 ≠ s1 := fun e => absurd h.lt01 (by rw [e]; exact lt_irrefl _)
theorem ne12 : s1 ≠ s2 := fun e => absurd h.lt12 (by rw [e]; exact lt_irrefl _)
theorem ne02 : s0 ≠ s2 := fun e => absurd (h.lt01.trans h.lt12) (by rw [e]; exact lt_irrefl _)

end Nearest

/-! A lane's `k`-th value is at most `x` when `k` of its places are, and then there are `k` such places. -/

variable {d : Fin 1024 → EReal} {l : Fin 128} {x : EReal}

theorem mem_below {i : Fin 8} : i ∈ below (lane d l) x ↔ d (at' i l) ≤ x := by
  unfold below lane
  rw [Finset.mem_filter]
  exact ⟨And.right, fun h => ⟨Finset.mem_univ i, h⟩⟩

theorem first_at (i : Fin 8) : first (lane d l) ≤ d (at' i l) :=
  (first_le _ _).mpr (Finset.card_pos.mpr ⟨i, mem_below.mpr le_rfl⟩)

theorem exists_first (d : Fin 1024 → EReal) (l : Fin 128) : ∃ i, d (at' i l) ≤ first (lane d l) := by
  obtain ⟨i, hi⟩ := Finset.card_pos.mp ((first_le (lane d l) _).mp le_rfl)
  exact ⟨i, mem_below.mp hi⟩

theorem second_at {i j : Fin 8} (hij : i ≠ j) (hi : d (at' i l) ≤ x) (hj : d (at' j l) ≤ x) : second (lane d l) ≤ x :=
  (second_le _ _).mpr (Finset.one_lt_card.mpr ⟨i, mem_below.mpr hi, j, mem_below.mpr hj, hij⟩)

/-- Of a lane's two least values one is at a place other than a given one. -/
theorem exists_second (d : Fin 1024 → EReal) (l : Fin 128) (a : Fin 1024) :
    ∃ i, d (at' i l) ≤ second (lane d l) ∧ at' i l ≠ a := by
  obtain ⟨i, hi, j, hj, hij⟩ := Finset.one_lt_card.mp ((second_le (lane d l) _).mp le_rfl)
  by_cases e : at' i l = a
  · exact ⟨j, mem_below.mp hj, fun e' => hij (at'_inj (e.trans e'.symm)).1⟩
  · exact ⟨i, mem_below.mp hi, e⟩

theorem third_at {i j k : Fin 8} (hij : i ≠ j) (hik : i ≠ k) (hjk : j ≠ k) (hi : d (at' i l) ≤ x) (hj : d (at' j l) ≤ x)
    (hk : d (at' k l) ≤ x) : third (lane d l) ≤ x :=
  (third_le _ _).mpr (Finset.two_lt_card.mpr ⟨i, mem_below.mpr hi, j, mem_below.mpr hj, k, mem_below.mpr hk, hij, hik, hjk⟩)

/-- Of a lane's three least values one is at a place other than two given ones. -/
theorem exists_third (d : Fin 1024 → EReal) (l : Fin 128) (a b : Fin 1024) :
    ∃ i, d (at' i l) ≤ third (lane d l) ∧ at' i l ≠ a ∧ at' i l ≠ b := by
  obtain ⟨i, hi, j, hj, k, hk, hij, hik, hjk⟩ := Finset.two_lt_card.mp ((third_le (lane d l) _).mp le_rfl)
  have inj : ∀ {p q : Fin 8}, p ≠ q → ∀ {c : Fin 1024}, at' p l = c → at' q l ≠ c := fun hpq _ e e' => hpq (at'_inj (e.trans e'.symm)).1
  by_cases ia : at' i l = a
  · by_cases jb : at' j l = b
    · exact ⟨k, mem_below.mp hk, inj hik ia, inj hjk jb⟩
    · exact ⟨j, mem_below.mp hj, inj hij ia, jb⟩
  · by_cases ib : at' i l = b
    · by_cases ja : at' j l = a
      · exact ⟨k, mem_below.mp hk, inj hjk ja, inj hik ib⟩
      · exact ⟨j, mem_below.mp hj, ja, inj hij ib⟩
    · exact ⟨i, mem_below.mp hi, ia, ib⟩

/-! ## What the rounds find -/

section found

variable {s0 s1 s2 : Fin 1024} (h : Nearest d s0 s1 s2)
include h

theorem m1_eq : m1 d = d s0 := by
  apply laneMin_eq
  · intro l
    obtain ⟨i, hi⟩ := exists_first d l
    exact (h.le0 _).trans hi
  · obtain ⟨i, l, rfl⟩ := at'_surj s0
    exact ⟨l, first_at i⟩

/-- The first round's mark is on the lane of the nearest place alone. -/
theorem mark1 {i0 : Fin 8} {l0 : Fin 128} (e : at' i0 l0 = s0) (l : Fin 128) : first (lane d l) = m1 d ↔ l = l0 := by
  rw [m1_eq h]
  constructor
  · intro hl
    obtain ⟨i, hi⟩ := exists_first d l
    exact (at'_inj ((h.eq0 (hi.trans hl.le)).trans e.symm)).2
  · rintro rfl
    obtain ⟨i, hi⟩ := exists_first d l
    exact le_antisymm (e ▸ first_at i0) ((h.le0 _).trans hi)

/-- After the first round every lane shows a value of a place other than the nearest. -/
theorem exists_k1 (l : Fin 128) : ∃ i, d (at' i l) ≤ k1 d l ∧ at' i l ≠ s0 := by
  obtain ⟨i0, l0, e⟩ := at'_surj s0
  unfold k1
  split_ifs with hl
  · exact exists_second d l s0
  · obtain ⟨i, hi⟩ := exists_first d l
    exact ⟨i, hi, fun e' => hl ((mark1 h e l).mpr (at'_inj (e'.trans e.symm)).2)⟩

/-- After the first round the lane of a place other than the nearest shows at most that place's value. -/
theorem k1_at {i : Fin 8} {l : Fin 128} (e : at' i l ≠ s0) : k1 d l ≤ d (at' i l) := by
  obtain ⟨i0, l0, e0⟩ := at'_surj s0
  unfold k1
  split_ifs with hl
  · obtain rfl := (mark1 h e0 l).mp hl
    exact second_at (i := i) (j := i0) (fun e' => e (e' ▸ e0)) le_rfl (e0 ▸ h.le0 _)
  · exact first_at i

theorem m2_eq : m2 d = d s1 := by
  apply laneMin_eq
  · intro l
    obtain ⟨i, hi, e⟩ := exists_k1 h l
    exact (h.le1 e).trans hi
  · obtain ⟨i, l, e⟩ := at'_surj s1
    exact ⟨l, e ▸ k1_at h (fun e' => h.ne01 (e'.symm.trans e))⟩

/-- The second round's mark is on the lane of the second place alone. -/
theorem mark2 {i1 : Fin 8} {l1 : Fin 128} (e : at' i1 l1 = s1) (l : Fin 128) : k1 d l = m2 d ↔ l = l1 := by
  rw [m2_eq h]
  constructor
  · intro hl
    obtain ⟨i, hi, ne⟩ := exists_k1 h l
    exact (at'_inj ((h.eq1 ne (hi.trans hl.le)).trans e.symm)).2
  · rintro rfl
    obtain ⟨i, hi, ne⟩ := exists_k1 h l
    exact le_antisymm (e ▸ k1_at h (fun e' => h.ne01 (e'.symm.trans e))) ((h.le1 ne).trans hi)

theorem exists_k2 (l : Fin 128) : ∃ i, d (at' i l) ≤ k2 d l ∧ at' i l ≠ s0 ∧ at' i l ≠ s1 := by
  obtain ⟨i0, l0, e0⟩ := at'_surj s0
  obtain ⟨i1, l1, e1⟩ := at'_surj s1
  unfold k2
  split_ifs with h1 h0
  · exact exists_third d l s0 s1
  · obtain ⟨i, hi, ne⟩ := exists_second d l s1
    exact ⟨i, hi, fun e' => h0 ((mark1 h e0 l).mpr (at'_inj (e'.trans e0.symm)).2), ne⟩
  · obtain ⟨i, hi, ne⟩ := exists_k1 h l
    exact ⟨i, hi, ne, fun e' => h1 ((mark2 h e1 l).mpr (at'_inj (e'.trans e1.symm)).2)⟩

theorem k2_at {i : Fin 8} {l : Fin 128} (ne0 : at' i l ≠ s0) (ne1 : at' i l ≠ s1) : k2 d l ≤ d (at' i l) := by
  obtain ⟨i0, l0, e0⟩ := at'_surj s0
  obtain ⟨i1, l1, e1⟩ := at'_surj s1
  unfold k2
  split_ifs with h1 h0
  · obtain rfl := (mark1 h e0 l).mp h0
    obtain rfl := (mark2 h e1 l).mp h1
    exact third_at (i := i) (j := i0) (k := i1) (fun e' => ne0 (e' ▸ e0)) (fun e' => ne1 (e' ▸ e1))
      (fun e' => h.ne01 (e0.symm.trans (e' ▸ e1))) le_rfl (e0 ▸ h.le0 _) (e1 ▸ h.le1 ne0)
  · obtain rfl := (mark2 h e1 l).mp h1
    exact second_at (i := i) (j := i1) (fun e' => ne1 (e' ▸ e1)) le_rfl (e1 ▸ h.le1 ne0)
  · exact k1_at h ne0

theorem m3_eq : m3 d = d s2 := by
  apply laneMin_eq
  · intro l
    obtain ⟨i, hi, ne0, ne1⟩ := exists_k2 h l
    exact (h.le2 ne0 ne1).trans hi
  · obtain ⟨i, l, e⟩ := at'_surj s2
    exact ⟨l, e ▸ k2_at h (fun e' => h.ne02 (e'.symm.trans e)) (fun e' => h.ne12 (e'.symm.trans e))⟩

end found

end Cert.Proof.Select

end
-- ==== Proof.Norm.lean ====
/-
  The two forms of batch normalization on the extended reals: the kernel's, from the sums of the values and of their
  squares with the scale folded into one factor, and the reference's, from the mean and the mean square deviation.
  `norm_eq` says that they agree on every family of 65536 extended reals.
-/
module

public import Idealize.ShloMosaic.PureOps.Ideal
public import Idealize.ShloMosaic.PureOps.Ideal.Laws
public import Idealize.ShloMosaic.Lib.IdealHost

@[expose] public section

noncomputable section

namespace Cert.Proof.Norm

open Idealize.ShloMosaic

/-! ## The constants -/

/-- One over the number of positions. -/
theorem inv_n : Ideal.ofBits .f32 0x37800000#32 = ((1 / 65536 : ℝ) : EReal) := by
  simp [Ideal.ofBits, Ideal.ieee, -EReal.coe_mul]; norm_num

/-- The number of positions. -/
theorem num : Ideal.ofBits .f32 0x47800000#32 = ((65536 : ℝ) : EReal) := by
  simp [Ideal.ofBits, Ideal.ieee, -EReal.coe_mul]; norm_num

/-- The constant under the root is a positive real. -/
theorem eps_pos : ∃ e : ℝ, 0 < e ∧ Ideal.ofBits .f32 0x3727C5AC#32 = ((e : ℝ) : EReal) := by
  refine ⟨(10995116 : ℝ) * 2 ^ (-40 : ℤ), by positivity, ?_⟩
  simp [Ideal.ofBits, Ideal.ieee, -EReal.coe_mul]

/-! ## Sums of extended reals -/

variable {ι : Type} (s : Finset ι)

theorem sum_coe (r : ι → ℝ) : (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

theorem sum_of_bot {f : ι → EReal} (h : ∃ i ∈ s, f i = ⊥) : ∑ i ∈ s, f i = ⊥ := by
  classical
  obtain ⟨i, hi, hf⟩ := h
  rw [← Finset.add_sum_erase s f hi, hf, EReal.bot_add]

theorem sum_ne_bot {f : ι → EReal} (h : ∀ i ∈ s, f i ≠ ⊥) : ∑ i ∈ s, f i ≠ ⊥ := by
  classical
  induction s using Finset.induction_on with
  | empty => simp
  | insert a s ha ih =>
    rw [Finset.sum_insert ha]
    intro hb
    rcases EReal.add_eq_bot_iff.mp hb with h1 | h1
    · exact h a (Finset.mem_insert_self a s) h1
    · exact ih (fun i hi => h i (Finset.mem_insert_of_mem hi)) h1

theorem sum_of_top {f : ι → EReal} (h : ∃ i ∈ s, f i = ⊤) (hb : ∀ i ∈ s, f i ≠ ⊥) : ∑ i ∈ s, f i = ⊤ := by
  classical
  obtain ⟨i, hi, hf⟩ := h
  rw [← Finset.add_sum_erase s f hi, hf]
  exact EReal.top_add_of_ne_bot (sum_ne_bot _ fun j hj => hb j (Finset.mem_of_mem_erase hj))

theorem mul_self_ne_bot (x : EReal) : x * x ≠ ⊥ := by
  induction x with
  | bot => simp
  | top => simp
  | coe r => rw [← EReal.coe_mul]; exact EReal.coe_ne_bot _

theorem mul_self_of_inf {x : EReal} (h : x = ⊤ ∨ x = ⊥) : x * x = ⊤ := by
  rcases h with rfl | rfl <;> simp

/-! ## The two forms -/

/-- The kernel's form at one value `x`, from the sum `A` of the values and the sum `Q` of their squares. -/
def viaSquares (A Q x g b : EReal) : EReal :=
  (x - A * Ideal.ofBits .f32 0x37800000#32)
      * Ideal.div g (Ideal.sqrt (Q * Ideal.ofBits .f32 0x37800000#32
          - A * Ideal.ofBits .f32 0x37800000#32 * (A * Ideal.ofBits .f32 0x37800000#32)
        + Ideal.ofBits .f32 0x3727C5AC#32)) + b

/-- The reference's form at one value `x`, from the mean `M` and the sum `V` of the squared deviations from it. -/
def viaDeviations (M V x g b : EReal) : EReal :=
  Ideal.div (x - M) (Ideal.sqrt (Ideal.div V ((65536 : ℝ) : EReal) + Ideal.ofBits .f32 0x3727C5AC#32)) * g + b

/-- The mean of a family, as the reference takes it. -/
def mean (y : ι → EReal) : EReal := Ideal.div (∑ i ∈ s, y i) ((65536 : ℝ) : EReal)

theorem mean_eq (y : ι → EReal) : mean s y = (∑ i ∈ s, y i) * ((1 / 65536 : ℝ) : EReal) := by
  unfold mean; rw [Ideal.div_coe (by norm_num)]

/-- A quotient by an infinite value vanishes. -/
theorem div_top (x : EReal) : Ideal.div x ⊤ = 0 := by simp [Ideal.div]

theorem div_bot (x : EReal) : Ideal.div x ⊥ = 0 := by simp [Ideal.div]

/-- On real values the mean of the squares less the squared mean is the mean squared deviation. -/
theorem variance_eq (hs : s.card = 65536) (r : ι → ℝ) :
    (∑ i ∈ s, r i * r i) * (1 / 65536) - (∑ i ∈ s, r i) * (1 / 65536) * ((∑ i ∈ s, r i) * (1 / 65536))
      = (∑ i ∈ s, (r i - (∑ i ∈ s, r i) * (1 / 65536)) * (r i - (∑ i ∈ s, r i) * (1 / 65536))) * (1 / 65536) := by
  set m := (∑ i ∈ s, r i) * (1 / 65536 : ℝ) with hm
  have hsum : ∑ i ∈ s, r i = 65536 * m := by rw [hm]; ring
  have : ∀ i ∈ s, (r i - m) * (r i - m) = r i * r i - 2 * m * r i + m * m := fun i _ => by ring
  rw [Finset.sum_congr rfl this, Finset.sum_add_distrib, Finset.sum_sub_distrib, ← Finset.mul_sum, hsum, Finset.sum_const, hs]
  simp only [nsmul_eq_mul]
  push_cast
  ring

theorem inf_mul_inv {x : EReal} (h : x = ⊤ ∨ x = ⊥) :
    x * ((1 / 65536 : ℝ) : EReal) = ⊤ ∨ x * ((1 / 65536 : ℝ) : EReal) = ⊥ := by
  rcases h with rfl | rfl
  · left; exact EReal.top_mul_coe_of_pos (by norm_num)
  · right; exact EReal.bot_mul_coe_of_pos (by norm_num)

/-- The two forms agree at every family of 65536 extended reals, infinite ones too: there both scales vanish. -/
theorem norm_eq (hs : s.card = 65536) (y : ι → EReal) (x g b : EReal) (hx : ∃ i ∈ s, x = y i) :
    viaSquares (∑ i ∈ s, y i) (∑ i ∈ s, y i * y i) x g b
      = viaDeviations (mean s y) (∑ i ∈ s, (y i - mean s y) * (y i - mean s y)) x g b := by
  obtain ⟨e, he, hE⟩ := eps_pos
  unfold viaSquares viaDeviations
  rw [mean_eq, inv_n, hE]
  by_cases hfin : ∀ i ∈ s, y i ≠ ⊤ ∧ y i ≠ ⊥
  · -- real values
    obtain ⟨r, hr⟩ : ∃ r : ι → ℝ, ∀ i ∈ s, y i = ((r i : ℝ) : EReal) :=
      ⟨fun i => (y i).toReal, fun i hi => (EReal.coe_toReal (hfin i hi).1 (hfin i hi).2).symm⟩
    obtain ⟨i0, hi0, rfl⟩ := hx
    have h1 : ∑ i ∈ s, y i = ((∑ i ∈ s, r i : ℝ) : EReal) := by rw [Finset.sum_congr rfl hr, sum_coe]
    have h2 : ∑ i ∈ s, y i * y i = ((∑ i ∈ s, r i * r i : ℝ) : EReal) := by
      rw [← sum_coe]; exact Finset.sum_congr rfl fun i hi => by rw [hr i hi, EReal.coe_mul]
    rw [h1, h2]
    obtain ⟨m, hm⟩ : ∃ m : ℝ, m = (∑ i ∈ s, r i) * (1 / 65536) := ⟨_, rfl⟩
    have h3 : ((∑ i ∈ s, r i : ℝ) : EReal) * ((1 / 65536 : ℝ) : EReal) = (m : EReal) := by rw [← EReal.coe_mul, hm]
    rw [h3]
    have h4 : ∑ i ∈ s, (y i - (m : EReal)) * (y i - (m : EReal)) = ((∑ i ∈ s, (r i - m) * (r i - m) : ℝ) : EReal) := by
      rw [← sum_coe]; exact Finset.sum_congr rfl fun i hi => by rw [hr i hi, EReal.coe_mul, EReal.coe_sub]
    rw [h4, Ideal.div_coe (by norm_num), hr i0 hi0]
    have hv := variance_eq s hs r
    rw [← hm] at hv
    have hv0 : 0 ≤ (∑ i ∈ s, (r i - m) * (r i - m)) * (1 / 65536 : ℝ) :=
      mul_nonneg (Finset.sum_nonneg fun i _ => mul_self_nonneg _) (by norm_num)
    simp only [← EReal.coe_mul, ← EReal.coe_sub, ← EReal.coe_add]
    rw [hv]
    set v := (∑ i ∈ s, (r i - m) * (r i - m)) * (1 / 65536 : ℝ)
    have hpos : 0 < v + e := by linarith
    rw [Ideal.sqrt_coe, if_neg (by linarith)]
    have hsq : Real.sqrt (v + e) ≠ 0 := (Real.sqrt_pos.mpr hpos).ne'
    rw [Ideal.div_coe hsq, Ideal.div_coe hsq]
    rw [mul_comm g, ← mul_assoc]
  · -- some value is infinite
    have hA : ∑ i ∈ s, y i = ⊤ ∨ ∑ i ∈ s, y i = ⊥ := by
      by_cases hb : ∃ i ∈ s, y i = ⊥
      · right; exact sum_of_bot s hb
      · left
        push Not at hb hfin
        obtain ⟨i, hi, hi'⟩ := hfin
        refine sum_of_top s ⟨i, hi, ?_⟩ hb
        by_contra hne; exact hb i hi (hi' hne)
    have hinf : ∃ i ∈ s, y i = ⊤ ∨ y i = ⊥ := by
      push Not at hfin
      obtain ⟨i, hi, hi'⟩ := hfin
      exact ⟨i, hi, by by_cases h : y i = ⊤; exacts [.inl h, .inr (hi' h)]⟩
    have hQ : ∑ i ∈ s, y i * y i = ⊤ := by
      obtain ⟨i, hi, hi'⟩ := hinf
      exact sum_of_top s ⟨i, hi, mul_self_of_inf hi'⟩ fun j _ => mul_self_ne_bot _
    have hM := inf_mul_inv hA
    set M := (∑ i ∈ s, y i) * ((1 / 65536 : ℝ) : EReal)
    have hV : ∑ i ∈ s, (y i - M) * (y i - M) = ⊤ := by
      have hdev : ∃ i ∈ s, y i - M = ⊤ ∨ y i - M = ⊥ := by
        obtain ⟨i, hi, -⟩ := hx
        refine ⟨i, hi, ?_⟩
        rcases hM with hM | hM <;> rw [hM]
        · right; induction y i <;> simp [sub_eq_add_neg]
        · generalize y i = z
          induction z with
          | bot => right; simp [sub_eq_add_neg]
          | top => left; simp [sub_eq_add_neg]
          | coe r => left; simp [sub_eq_add_neg]
      obtain ⟨i, hi, hi'⟩ := hdev
      exact sum_of_top s ⟨i, hi, mul_self_of_inf hi'⟩ fun j _ => mul_self_ne_bot _
    rw [hQ, hV, mul_self_of_inf hM, EReal.top_mul_coe_of_pos (by norm_num), Ideal.div_coe (by norm_num),
      EReal.top_mul_coe_of_pos (by norm_num)]
    have t1 : (⊤ : EReal) - ⊤ + (e : EReal) = ⊥ := by simp [sub_eq_add_neg]
    have t2 : (⊤ : EReal) + (e : EReal) = ⊤ := EReal.top_add_coe e
    rw [t1, t2, Ideal.sqrt_bot, Ideal.sqrt_top, div_bot, div_top, mul_zero, zero_mul]

end Cert.Proof.Norm

end
-- ==== Proof.Weights.lean ====
/-
The interpolation weights on one row of distances, and the two ways of writing a squared distance.

With the three nearest places strictly ordered, the sum over all places of the masked weights is the sum over the three
nearest of the reference's weights; the distances agree where the coordinates are finite.
-/
module

public import proofs.«01_k».proof.Proof.Select
public import proofs.«01_k».proof.Proof.Norm

@[expose] public section

noncomputable section

namespace Cert.Proof.Weights

open Idealize.ShloMosaic Cert.Proof.Select

/-! ## Weights -/

/-- A distance kept away from zero. -/
def clip (d : EReal) : EReal :=
  if d < Ideal.ofBits .f32 786163455#32 then Ideal.ofBits .f32 786163455#32 else d

/-- The reciprocal of a distance kept away from zero. -/
def recip (d : EReal) : EReal := Ideal.div 1 (clip d)

/-- The least distance is a positive real. -/
theorem least_pos : ∃ e : ℝ, 0 < e ∧ Ideal.ofBits .f32 786163455#32 = ((e : ℝ) : EReal) := by
  refine ⟨(14411519 : ℝ) * 2 ^ (-57 : ℤ), by positivity, ?_⟩
  simp [Ideal.ofBits, Ideal.ieee, -EReal.coe_mul]

theorem clip_pos (d : EReal) : 0 < clip d := by
  obtain ⟨e, he, hE⟩ := least_pos
  have hpos : (0 : EReal) < Ideal.ofBits .f32 786163455#32 := by rw [hE]; exact_mod_cast he
  unfold clip
  split
  · exact hpos
  · next h => exact hpos.trans_le (not_lt.mp h)

theorem recip_eq (d : EReal) : recip d = (clip d)⁻¹ := by
  unfold recip Ideal.div
  rw [if_neg (clip_pos d).ne', one_mul]

theorem recip_nonneg (d : EReal) : 0 ≤ recip d := by
  rw [recip_eq]; exact EReal.inv_nonneg_of_nonneg (clip_pos d).le

theorem recip_pos {d : EReal} (h : d ≠ ⊤) : 0 < recip d := by
  have ht : clip d ≠ ⊤ := by
    obtain ⟨e, he, hE⟩ := least_pos
    unfold clip
    split
    · rw [hE]; exact EReal.coe_ne_top e
    · exact h
  rw [recip_eq]
  exact EReal.inv_pos_of_pos_ne_top (clip_pos d) ht

theorem sum_eq {d : Fin 1024 → EReal} {s0 s1 s2 : Fin 1024} (h : Nearest d s0 s1 s2) (f : Fin 1024 → EReal) :
    (∑ s, f s * (if d s ≤ m3 d then
        recip (d s) * Ideal.div 1 (recip (m1 d) + recip (m2 d) + recip (m3 d)) else 0))
      = f s0 * Ideal.div (recip (d s0)) (recip (d s0) + recip (d s1) + recip (d s2))
        + f s1 * Ideal.div (recip (d s1)) (recip (d s0) + recip (d s1) + recip (d s2))
        + f s2 * Ideal.div (recip (d s2)) (recip (d s0) + recip (d s1) + recip (d s2)) := by
  have hr : recip (d s0) + recip (d s1) + recip (d s2) ≠ 0 := by
    have h0 : 0 < recip (d s0) := recip_pos (lt_top_of_lt h.lt01).ne
    have h1 : recip (d s0) ≤ recip (d s0) + recip (d s1) := le_add_of_nonneg_right (recip_nonneg _)
    have h2 : recip (d s0) + recip (d s1) ≤ recip (d s0) + recip (d s1) + recip (d s2) := le_add_of_nonneg_right (recip_nonneg _)
    exact (h0.trans_le (h1.trans h2)).ne'
  rw [m1_eq h, m2_eq h, m3_eq h]
  simp only [Ideal.mul_one_div hr, mul_ite, mul_zero, h.le_iff]
  rw [← Finset.sum_filter]
  have e : (Finset.univ.filter fun s => s = s0 ∨ s = s1 ∨ s = s2) = {s0, s1, s2} := by ext s; simp
  rw [e, Finset.sum_insert (by simp [h.ne01, h.ne02]), Finset.sum_insert (by simp [h.ne12]), Finset.sum_singleton, ← add_assoc]

/-! ## Distances -/

/-- The reference's squared distance. -/
def distRef (a b : Fin 3 → EReal) : EReal :=
  ∑ x, a x * a x + ∑ x, b x * b x - Ideal.ofBits .f32 1073741824#32 * ∑ x, a x * b x

/-- The kernel's squared distance. -/
def distKer (a b : Fin 3 → EReal) : EReal :=
  ∑ x, a x * a x + ∑ x, b x * b x + ∑ x, a x * (b x * Ideal.ofBits .f32 3221225472#32)

theorem two : Ideal.ofBits .f32 1073741824#32 = ((2 : ℝ) : EReal) := by
  simp [Ideal.ofBits, Ideal.ieee, -EReal.coe_mul]; norm_num

theorem minus_two : Ideal.ofBits .f32 3221225472#32 = (((-1 : ℝ) - 1 : ℝ) : EReal) := by
  rw [show ((-1 : ℝ) - 1) = -2 by norm_num]
  simp [Ideal.ofBits, Ideal.ieee, -EReal.coe_mul, -EReal.coe_neg]; norm_num

theorem real_of (a : Fin 3 → EReal) (h : ∀ x, a x ≠ ⊤ ∧ a x ≠ ⊥) : ∃ r : Fin 3 → ℝ, ∀ x, a x = ((r x : ℝ) : EReal) :=
  ⟨fun x => (a x).toReal, fun x => (EReal.coe_toReal (h x).1 (h x).2).symm⟩

/-- On finite coordinates the two distances agree. -/
theorem dist_eq (a b : Fin 3 → EReal) (ha : ∀ x, a x ≠ ⊤ ∧ a x ≠ ⊥) (hb : ∀ x, b x ≠ ⊤ ∧ b x ≠ ⊥) :
    distKer a b = distRef a b := by
  obtain ⟨r, hr⟩ := real_of a ha
  obtain ⟨t, ht⟩ := real_of b hb
  unfold distKer distRef
  simp only [hr, ht, two, minus_two, Fin.sum_univ_three, ← EReal.coe_mul, ← EReal.coe_add, ← EReal.coe_sub]
  exact congrArg _ (by ring)

/-- If the second point is finite and the distance is finite, so is the first point. -/
theorem finite_of_dist (a b : Fin 3 → EReal) (hb : ∀ x, b x ≠ ⊤ ∧ b x ≠ ⊥) (h : distRef a b ≠ ⊤ ∧ distRef a b ≠ ⊥) (x : Fin 3) :
    a x ≠ ⊤ ∧ a x ≠ ⊥ := by
  by_contra hx
  have hx' : a x = ⊤ ∨ a x = ⊥ := by
    by_contra hn
    exact hx ⟨fun e => hn (.inl e), fun e => hn (.inr e)⟩
  obtain ⟨t, ht⟩ := real_of b hb
  have hs : ∑ x, a x * a x = ⊤ :=
    Norm.sum_of_top _ ⟨x, Finset.mem_univ x, Norm.mul_self_of_inf hx'⟩ fun i _ => Norm.mul_self_ne_bot (a i)
  have hq : ∑ x, b x * b x = ((∑ x, t x * t x : ℝ) : EReal) := by
    simp only [ht, ← EReal.coe_mul]
    exact Norm.sum_coe _ _
  unfold distRef at h
  rw [hs, hq, EReal.top_add_coe] at h
  generalize Ideal.ofBits .f32 1073741824#32 * ∑ x, a x * b x = y at h
  induction y using EReal.rec with
  | bot => exact h.1 (by simp)
  | top => exact h.2 (by simp)
  | coe y => exact h.1 (by simp)

end Cert.Proof.Weights
-- ==== Proof.KernelRead.lean ====
/-
The kernel's values at one index, over the extended reals: the three least distances of a row, the first layer's output,
the channel sums, and the two normalised layers.
-/
module

public import proofs.«01_k».proof.Proof.KernelValue
public import proofs.«01_k».proof.Proof.Weights

@[expose] public section

set_option maxRecDepth 16384

noncomputable section

namespace Cert.Proof.KernelRead

open Cert.KernelIdeal Cert.KernelIdeal.Gen
open Idealize.ShloMosaic Idealize.SL.Sem
open Cert.Proof.Select Cert.Proof.Weights

/-! ## The distances of a row and their three least -/

section row

variable (x0 : Vec Ideal S1x3x4096 .f32) (x1 : Vec Ideal S1x3x1024 .f32) (n : Fin 4096)

/-- The distances from point `n`. -/
def row (s : Fin 1024) : EReal := distKer (fun x => x0 (ix3 0 x n)) (fun x => x1 (ix3 0 x s))

theorem pay1 (s : Fin 1024) : k0_pay1 x0 x1 (ix2 n s) = row x0 x1 n s := by
  unfold row distKer
  pointwise [k0_pay1]

variable (l : Fin 128)

theorem pay2 : k0_pay2 x0 x1 (ix2 n l) = row x0 x1 n (at' 0 l) := by
  rw [← pay1]; pointwise [k0_pay2]; exact congrArg (fun s => k0_pay1 x0 x1 (ix2 n s)) (Fin.ext (by simp [at']))
theorem pay3 : k0_pay3 x0 x1 (ix2 n l) = row x0 x1 n (at' 1 l) := by
  rw [← pay1]; pointwise [k0_pay3]; exact congrArg (fun s => k0_pay1 x0 x1 (ix2 n s)) (Fin.ext (by simp [at']))
theorem pay4 : k0_pay4 x0 x1 (ix2 n l) = row x0 x1 n (at' 2 l) := by
  rw [← pay1]; pointwise [k0_pay4]; exact congrArg (fun s => k0_pay1 x0 x1 (ix2 n s)) (Fin.ext (by simp [at']))
theorem pay5 : k0_pay5 x0 x1 (ix2 n l) = row x0 x1 n (at' 3 l) := by
  rw [← pay1]; pointwise [k0_pay5]; exact congrArg (fun s => k0_pay1 x0 x1 (ix2 n s)) (Fin.ext (by simp [at']))
theorem pay6 : k0_pay6 x0 x1 (ix2 n l) = row x0 x1 n (at' 4 l) := by
  rw [← pay1]; pointwise [k0_pay6]; exact congrArg (fun s => k0_pay1 x0 x1 (ix2 n s)) (Fin.ext (by simp [at']))
theorem pay7 : k0_pay7 x0 x1 (ix2 n l) = row x0 x1 n (at' 5 l) := by
  rw [← pay1]; pointwise [k0_pay7]; exact congrArg (fun s => k0_pay1 x0 x1 (ix2 n s)) (Fin.ext (by simp [at']))
theorem pay8 : k0_pay8 x0 x1 (ix2 n l) = row x0 x1 n (at' 6 l) := by
  rw [← pay1]; pointwise [k0_pay8]; exact congrArg (fun s => k0_pay1 x0 x1 (ix2 n s)) (Fin.ext (by simp [at']))
theorem pay9 : k0_pay9 x0 x1 (ix2 n l) = row x0 x1 n (at' 7 l) := by
  rw [← pay1]; pointwise [k0_pay9]; exact congrArg (fun s => k0_pay1 x0 x1 (ix2 n s)) (Fin.ext (by simp [at']))

/-- The eight values of lane `l`. -/
abbrev eight : Fin 8 → EReal := lane (row x0 x1 n) l

theorem pay17 : k0_pay17 x0 x1 (ix2 n l)
    = mid4 (eight x0 x1 n l 0) (eight x0 x1 n l 1) (eight x0 x1 n l 2) (eight x0 x1 n l 3) := by
  show mid4 (α := EReal) (k0_pay2 x0 x1 (ix2 n l)) (k0_pay3 x0 x1 (ix2 n l)) (k0_pay4 x0 x1 (ix2 n l)) (k0_pay5 x0 x1 (ix2 n l)) = _
  rw [pay2, pay3, pay4, pay5]; rfl

theorem pay18 : k0_pay18 x0 x1 (ix2 n l)
    = hi4 (eight x0 x1 n l 0) (eight x0 x1 n l 1) (eight x0 x1 n l 2) (eight x0 x1 n l 3) := by
  show hi4 (α := EReal) (k0_pay2 x0 x1 (ix2 n l)) (k0_pay3 x0 x1 (ix2 n l)) (k0_pay4 x0 x1 (ix2 n l)) (k0_pay5 x0 x1 (ix2 n l)) = _
  rw [pay2, pay3, pay4, pay5]; rfl

theorem pay14 : k0_pay14 x0 x1 (ix2 n l)
    = lo4 (eight x0 x1 n l 0) (eight x0 x1 n l 1) (eight x0 x1 n l 2) (eight x0 x1 n l 3) := by
  show lo4 (α := EReal) (k0_pay2 x0 x1 (ix2 n l)) (k0_pay3 x0 x1 (ix2 n l)) (k0_pay4 x0 x1 (ix2 n l)) (k0_pay5 x0 x1 (ix2 n l)) = _
  rw [pay2, pay3, pay4, pay5]; rfl

theorem pay22 : k0_pay22 x0 x1 (ix2 n l)
    = mid4 (eight x0 x1 n l 4) (eight x0 x1 n l 5) (eight x0 x1 n l 6) (eight x0 x1 n l 7) := by
  show mid4 (α := EReal) (k0_pay6 x0 x1 (ix2 n l)) (k0_pay7 x0 x1 (ix2 n l)) (k0_pay8 x0 x1 (ix2 n l)) (k0_pay9 x0 x1 (ix2 n l)) = _
  rw [pay6, pay7, pay8, pay9]; rfl

theorem pay23 : k0_pay23 x0 x1 (ix2 n l)
    = hi4 (eight x0 x1 n l 4) (eight x0 x1 n l 5) (eight x0 x1 n l 6) (eight x0 x1 n l 7) := by
  show hi4 (α := EReal) (k0_pay6 x0 x1 (ix2 n l)) (k0_pay7 x0 x1 (ix2 n l)) (k0_pay8 x0 x1 (ix2 n l)) (k0_pay9 x0 x1 (ix2 n l)) = _
  rw [pay6, pay7, pay8, pay9]; rfl

theorem pay19 : k0_pay19 x0 x1 (ix2 n l)
    = lo4 (eight x0 x1 n l 4) (eight x0 x1 n l 5) (eight x0 x1 n l 6) (eight x0 x1 n l 7) := by
  show lo4 (α := EReal) (k0_pay6 x0 x1 (ix2 n l)) (k0_pay7 x0 x1 (ix2 n l)) (k0_pay8 x0 x1 (ix2 n l)) (k0_pay9 x0 x1 (ix2 n l)) = _
  rw [pay6, pay7, pay8, pay9]; rfl

theorem pay24 : k0_pay24 x0 x1 (ix2 n l) = first (eight x0 x1 n l) := by
  show min (α := EReal) (k0_pay14 x0 x1 (ix2 n l)) (k0_pay19 x0 x1 (ix2 n l)) = _
  rw [pay14, pay19]; rfl

theorem pay25 : k0_pay25 x0 x1 (ix2 n l)
    = max (lo4 (eight x0 x1 n l 0) (eight x0 x1 n l 1) (eight x0 x1 n l 2) (eight x0 x1 n l 3))
        (lo4 (eight x0 x1 n l 4) (eight x0 x1 n l 5) (eight x0 x1 n l 6) (eight x0 x1 n l 7)) := by
  show max (α := EReal) (k0_pay14 x0 x1 (ix2 n l)) (k0_pay19 x0 x1 (ix2 n l)) = _
  rw [pay14, pay19]

theorem pay27 : k0_pay27 (k0_pay17 x0 x1) (k0_pay22 x0 x1) (k0_pay25 x0 x1) (ix2 n l) = second (eight x0 x1 n l) := by
  show min (α := EReal) (k0_pay25 x0 x1 (ix2 n l)) (min (α := EReal) (k0_pay17 x0 x1 (ix2 n l)) (k0_pay22 x0 x1 (ix2 n l))) = _
  rw [pay17, pay22, pay25]; rfl

theorem inf_top : Ideal.ofBits .f32 2139095040#32 = ⊤ := by
  simp [Ideal.ofBits, Ideal.ieee, -EReal.coe_mul]

theorem pay28 : k0_pay28 (k0_pay24 x0 x1) (ix2 n 0) = m1 (row x0 x1 n) := by
  pointwise [k0_pay28]
  simp only [pay24, inf_top]
  rfl

theorem pay30 : k0_pay30 (k0_pay17 x0 x1) (k0_pay22 x0 x1) (k0_pay24 x0 x1) (k0_pay25 x0 x1) (ix2 n l) = k1 (row x0 x1 n) l := by
  pointwise [k0_pay30, k0_pay29]
  rw [pay24, pay27, pay28]
  rfl

theorem pay31 : k0_pay31 (k0_pay17 x0 x1) (k0_pay22 x0 x1) (k0_pay24 x0 x1) (k0_pay25 x0 x1) (ix2 n 0) = m2 (row x0 x1 n) := by
  pointwise [k0_pay31]
  simp only [pay30, inf_top]
  rfl

theorem pay32 : k0_pay32 (k0_pay17 x0 x1) (k0_pay18 x0 x1) (k0_pay22 x0 x1) (k0_pay23 x0 x1) (k0_pay24 x0 x1) (k0_pay25 x0 x1) (ix2 n 0)
    = m3 (row x0 x1 n) := by
  pointwise [k0_pay32, k0_pay29, k0_pay26]
  simp only [pay30, pay31, pay24, pay27, pay28, pay17, pay18, pay22, pay23, pay25, inf_top]
  rfl

theorem pay33 : k0_pay33 (k0_pay17 x0 x1) (k0_pay18 x0 x1) (k0_pay22 x0 x1) (k0_pay23 x0 x1) (k0_pay24 x0 x1) (k0_pay25 x0 x1) (ix2 n 0)
    = Ideal.div 1 (recip (m1 (row x0 x1 n)) + recip (m2 (row x0 x1 n)) + recip (m3 (row x0 x1 n))) := by
  pointwise [k0_pay33]
  rw [pay28, pay31, pay32]
  rfl

theorem pay34 (s : Fin 1024) : k0_pay34 (k0_pay1 x0 x1) (ix2 n s) = clip (row x0 x1 n s) := by
  pointwise [k0_pay34]
  rw [pay1]
  rfl

theorem pay35 (s : Fin 1024) :
    k0_pay35 (k0_pay17 x0 x1) (k0_pay18 x0 x1) (k0_pay22 x0 x1) (k0_pay23 x0 x1) (k0_pay24 x0 x1) (k0_pay25 x0 x1) (ix2 n s)
      = m3 (row x0 x1 n) := by
  pointwise [k0_pay35]
  exact pay32 x0 x1 n

/-- The weight of place `s` for point `n`. -/
def weight (s : Fin 1024) : EReal :=
  if row x0 x1 n s ≤ m3 (row x0 x1 n) then
    recip (row x0 x1 n s) * Ideal.div 1 (recip (m1 (row x0 x1 n)) + recip (m2 (row x0 x1 n)) + recip (m3 (row x0 x1 n)))
  else 0

/-- The first layer's output. -/
theorem y1_at (x2 : Vec Ideal S1x64x4096 .f32) (x3 : Vec Ideal S1x128x1024 .f32) (x4 : Vec Ideal S128x192 .f32) (x5 : Vec Ideal S128x1 .f32)
    (o : Fin 128) :
    KernelValue.y1 x0 x1 x2 x3 x4 x5 (ix2 o n)
      = ∑ x : Fin 128, x4 (ix2 o ⟨x.val, by omega⟩) * ∑ s, x3 (ix3 0 x s) * weight x0 x1 n s
        + ∑ x : Fin 64, x4 (ix2 o ⟨128 + x.val, by omega⟩) * x2 (ix3 0 x n) + x5 (ix2 o 0) := by
  unfold KernelValue.y1 weight
  pointwise [k0_pay36]
  simp only [pay1, pay33, pay34, pay35]
  rfl

end row

/-! ## The channel sums and the normalised layers -/

theorem stats_at (v : FVec Ideal S128x4096 .f32) (o : Fin 128) :
    k1_pay2 v (ix2 o 0) = ∑ x, v (ix2 o x) ∧ k1_pay2 v (ix2 o 1) = ∑ x, v (ix2 o x) * v (ix2 o x) := by
  constructor
  · pointwise [k1_pay2]
  · pointwise [k1_pay2]

/-- The second layer's output. -/
theorem y2_at (v0 : Vec Ideal S16x128x2 .f32) (v11 : Vec Ideal S128x1 .f32) (v17 : Vec Ideal S1x128x4096 .f32) (v23 : Vec Ideal S128x1 .f32)
    (v29 : Vec Ideal S128x128 .f32) (v31 : Vec Ideal S128x1 .f32) (o : Fin 128) (n : Fin 4096) :
    k1_pay5 v0 v11 v17 v23 v29 v31 (ix2 o n)
      = ∑ x, v29 (ix2 o x) * max (Norm.viaSquares (∑ b, v0 (ix3 b x 0)) (∑ b, v0 (ix3 b x 1)) (v17 (ix3 0 x n)) (v11 (ix2 x 0)) (v23 (ix2 x 0))) 0
        + v31 (ix2 o 0) := by
  unfold Norm.viaSquares
  pointwise [k1_pay5]

/-- The result. -/
theorem result_at (v0 : Vec Ideal S16x128x2 .f32) (v11 : Vec Ideal S128x1 .f32) (v17 : Vec Ideal S1x128x4096 .f32) (v23 : Vec Ideal S128x1 .f32)
    (o : Fin 128) (n : Fin 4096) :
    k2_pay1 v0 v11 v17 v23 (ix3 0 o n)
      = max (Norm.viaSquares (∑ b, v0 (ix3 b o 0)) (∑ b, v0 (ix3 b o 1)) (v17 (ix3 0 o n)) (v11 (ix2 o 0)) (v23 (ix2 o 0))) 0 := by
  unfold Norm.viaSquares
  pointwise [k2_pay1]

end Cert.Proof.KernelRead
-- ==== Proof.KernelMem.lean ====
/-
The kernel's buffers at the boundaries between its three launches, as functions of the launch memory.
-/
module

public import proofs.«01_k».proof.Proof.KernelRun
public import proofs.«01_k».proof.Proof.KernelRead

@[expose] public section

set_option maxRecDepth 16384

noncomputable section

namespace Cert.Proof.KernelMem

open Cert.KernelIdeal Cert.KernelIdeal.Gen
open Idealize.ShloMosaic Idealize.ShloMosaic.TcCoe Idealize.SL.Sem
open Cert.Proof.KernelValue (slab)

variable (m : (ℓ : Loc nD τ sig) → Buf (Elt Ideal) ℓ) (ρ : Dev nD → PrngReg) (c : Dev nD)

/-! The twelve arguments at launch. -/

abbrev K0 : S16x3x4096.Idx → EReal := m ((c : Thread nD τ).loc main_arg0)
abbrev K1 : S16x3x1024.Idx → EReal := m ((c : Thread nD τ).loc main_arg1)
abbrev K2 : S16x64x4096.Idx → EReal := m ((c : Thread nD τ).loc main_arg2)
abbrev K3 : S16x128x1024.Idx → EReal := m ((c : Thread nD τ).loc main_arg3)
abbrev K4 : S128x192.Idx → EReal := m ((c : Thread nD τ).loc main_arg4)
abbrev K5 : S128.Idx → EReal := m ((c : Thread nD τ).loc main_arg5)
abbrev K6 : S128.Idx → EReal := m ((c : Thread nD τ).loc main_arg6)
abbrev K7 : S128.Idx → EReal := m ((c : Thread nD τ).loc main_arg7)
abbrev K8 : S128x128.Idx → EReal := m ((c : Thread nD τ).loc main_arg8)
abbrev K9 : S128.Idx → EReal := m ((c : Thread nD τ).loc main_arg9)
abbrev K10 : S128.Idx → EReal := m ((c : Thread nD τ).loc main_arg10)
abbrev K11 : S128.Idx → EReal := m ((c : Thread nD τ).loc main_arg11)

/-! ## The columns made of the six vectors -/

theorem col {A : Type} (z : S128.Idx → A) (o : Fin 128) : shapeCast S128x1 z shapeCasts_S128_S128x1 (ix2 o 0) = z (ix1 o) := by
  pointwise

theorem w0 : W1 m ρ c (Proc.devRef .tc main_v0) = shapeCast S128x1 (K5 m c) shapeCasts_S128_S128x1 := rfl
theorem w1 : W1 m ρ c (Proc.devRef .tc main_v1) = shapeCast S128x1 (K6 m c) shapeCasts_S128_S128x1 := rfl
theorem w2 : W1 m ρ c (Proc.devRef .tc main_v2) = shapeCast S128x1 (K7 m c) shapeCasts_S128_S128x1 := rfl
theorem w3 : W1 m ρ c (Proc.devRef .tc main_v3) = shapeCast S128x1 (K9 m c) shapeCasts_S128_S128x1 := rfl
theorem w4 : W1 m ρ c (Proc.devRef .tc main_v4) = shapeCast S128x1 (K10 m c) shapeCasts_S128_S128x1 := rfl
theorem w5 : W1 m ρ c (Proc.devRef .tc main_v5) = shapeCast S128x1 (K11 m c) shapeCasts_S128_S128x1 := rfl

/-! ## First layer -/

/-- The first layer's output before its normalisation. -/
abbrev Y1 : S16x128x4096.Idx → EReal := V2 m ρ c main_v6_0
/-- Its sums and sums of squares over the points, per batch and channel. -/
abbrev S1 : S16x128x2.Idx → EReal := V2 m ρ c main_v6_1

theorem v2_y : Y1 m ρ c = fun i : S16x128x4096.Idx => KernelValue.y1 (F := Ideal) (slab (K0 m c) (i 0)) (slab (K1 m c) (i 0)) (slab (K2 m c) (i 0)) (slab (K3 m c) (i 0)) (K4 m c) (shapeCast S128x1 (K5 m c) shapeCasts_S128_S128x1) (ix2 (i 1) (i 2)) :=
  (W2_arr m ρ c 6).trans (KernelValue.y1_array (V1 m ρ) c)

theorem v2_stats : S1 m ρ c = fun i : S16x128x2.Idx => k1_pay2 (F := Ideal) (KernelValue.y1 (slab (K0 m c) (i 0)) (slab (K1 m c) (i 0)) (slab (K2 m c) (i 0)) (slab (K3 m c) (i 0)) (K4 m c) (shapeCast S128x1 (K5 m c) shapeCasts_S128_S128x1)) (ix2 (i 1) (i 2)) :=
  (W2_arr m ρ c 7).trans (KernelValue.stats1_array (V1 m ρ) c)

theorem y1_read (b : Fin 16) (o : Fin 128) (n : Fin 4096) : Y1 m ρ c (ix3 b o n)
    = ∑ x : Fin 128, K4 m c (ix2 o ⟨x.val, by omega⟩) * ∑ s : Fin 1024, K3 m c (ix3 b x s) * KernelRead.weight (slab (K0 m c) b) (slab (K1 m c) b) n s
      + ∑ x : Fin 64, K4 m c (ix2 o ⟨128 + x.val, by omega⟩) * K2 m c (ix3 b x n) + K5 m c (ix1 o) := by
  refine (congrFun (v2_y m ρ c) (ix3 b o n)).trans ((KernelRead.y1_at (slab (K0 m c) b) (slab (K1 m c) b) n (slab (K2 m c) b) (slab (K3 m c) b) (K4 m c) _ o).trans ?_)
  rw [col]
  rfl

theorem stats1_read (b : Fin 16) (o : Fin 128) : S1 m ρ c (ix3 b o 0) = ∑ n : Fin 4096, Y1 m ρ c (ix3 b o n)
    ∧ S1 m ρ c (ix3 b o 1) = ∑ n : Fin 4096, Y1 m ρ c (ix3 b o n) * Y1 m ρ c (ix3 b o n) := by
  have h := KernelRead.stats_at (KernelValue.y1 (slab (K0 m c) b) (slab (K1 m c) b) (slab (K2 m c) b) (slab (K3 m c) b) (K4 m c) (shapeCast S128x1 (K5 m c) shapeCasts_S128_S128x1)) o
  rw [v2_stats, v2_y]
  exact h

/-! ## Second layer -/

theorem v2_1 : V2 m ρ c main_v1 = V1 m ρ c main_v1 := W2_of_ne m ρ c main_v1 (by decide)
theorem v2_2 : V2 m ρ c main_v2 = V1 m ρ c main_v2 := W2_of_ne m ρ c main_v2 (by decide)
theorem v2_3 : V2 m ρ c main_v3 = V1 m ρ c main_v3 := W2_of_ne m ρ c main_v3 (by decide)
theorem v2_4 : V2 m ρ c main_v4 = V1 m ρ c main_v4 := W2_of_ne m ρ c main_v4 (by decide)
theorem v2_5 : V2 m ρ c main_v5 = V1 m ρ c main_v5 := W2_of_ne m ρ c main_v5 (by decide)
theorem v2_arg8 : V2 m ρ c main_arg8 = K8 m c := W2_args m ρ c main_arg8 (by decide)
theorem v3_4 : V3 m ρ c main_v4 = V2 m ρ c main_v4 := W3_of_ne m ρ c main_v4 (by decide)
theorem v3_5 : V3 m ρ c main_v5 = V2 m ρ c main_v5 := W3_of_ne m ρ c main_v5 (by decide)

/-- The second layer's output before its normalisation. -/
abbrev Y2 : S16x128x4096.Idx → EReal := V3 m ρ c main_v7_0
/-- Its sums and sums of squares over the points, per batch and channel. -/
abbrev S2 : S16x128x2.Idx → EReal := V3 m ρ c main_v7_1

theorem v3_y : Y2 m ρ c = fun i : S16x128x4096.Idx => k1_pay5 (S1 m ρ c) (V2 m ρ c main_v1) (slab (Y1 m ρ c) (i 0)) (V2 m ρ c main_v2) (V2 m ρ c main_arg8) (V2 m ρ c main_v3) (ix2 (i 1) (i 2)) :=
  (W3_arr m ρ c 6).trans (KernelValue.y2_array (V2 m ρ) c)

theorem v3_stats : S2 m ρ c = fun i : S16x128x2.Idx => k1_pay2 (k1_pay5 (S1 m ρ c) (V2 m ρ c main_v1) (slab (Y1 m ρ c) (i 0)) (V2 m ρ c main_v2) (V2 m ρ c main_arg8) (V2 m ρ c main_v3)) (ix2 (i 1) (i 2)) :=
  (W3_arr m ρ c 7).trans (KernelValue.stats2_array (V2 m ρ) c)

theorem stats2_read (b : Fin 16) (o : Fin 128) : S2 m ρ c (ix3 b o 0) = ∑ n : Fin 4096, Y2 m ρ c (ix3 b o n)
    ∧ S2 m ρ c (ix3 b o 1) = ∑ n : Fin 4096, Y2 m ρ c (ix3 b o n) * Y2 m ρ c (ix3 b o n) := by
  have h := KernelRead.stats_at (k1_pay5 (S1 m ρ c) (V2 m ρ c main_v1) (slab (Y1 m ρ c) b) (V2 m ρ c main_v2) (V2 m ρ c main_arg8) (V2 m ρ c main_v3)) o
  rw [v3_stats, v3_y]
  exact h

/-- A layer's output after the kernel's batch normalisation and rectification. -/
def kerNorm (Y : S16x128x4096.Idx → EReal) (g be : S128.Idx → EReal) (b : Fin 16) (o : Fin 128) (n : Fin 4096) : EReal :=
  max (Norm.viaSquares (∑ b : Fin 16, ∑ n : Fin 4096, Y (ix3 b o n)) (∑ b : Fin 16, ∑ n : Fin 4096, Y (ix3 b o n) * Y (ix3 b o n))
    (Y (ix3 b o n)) (g (ix1 o)) (be (ix1 o))) 0

theorem y2_read (b : Fin 16) (o : Fin 128) (n : Fin 4096) : Y2 m ρ c (ix3 b o n)
    = ∑ x : Fin 128, K8 m c (ix2 o x) * kerNorm (Y1 m ρ c) (K6 m c) (K7 m c) b x n + K9 m c (ix1 o) := by
  have e1 : V2 m ρ c main_v1 = (shapeCast S128x1 (K6 m c) shapeCasts_S128_S128x1) := (v2_1 m ρ c).trans (w1 m ρ c)
  have e2 : V2 m ρ c main_v2 = (shapeCast S128x1 (K7 m c) shapeCasts_S128_S128x1) := (v2_2 m ρ c).trans (w2 m ρ c)
  have e3 : V2 m ρ c main_v3 = (shapeCast S128x1 (K9 m c) shapeCasts_S128_S128x1) := (v2_3 m ρ c).trans (w3 m ρ c)
  refine (congrFun (v3_y m ρ c) (ix3 b o n)).trans ?_
  rw [e1, e2, e3, v2_arg8]
  refine (KernelRead.y2_at (S1 m ρ c) _ (slab (Y1 m ρ c) b) _ (K8 m c) _ o n).trans ?_
  simp only [col, fun b o => (stats1_read m ρ c b o).1, fun b o => (stats1_read m ρ c b o).2]
  rfl

/-! ## Result -/

theorem result_read (b : Fin 16) (o : Fin 128) (n : Fin 4096) :
    (W4 m ρ c (Proc.devRef .tc main_v8) : S16x128x4096.Idx → EReal) (ix3 b o n) = kerNorm (Y2 m ρ c) (K10 m c) (K11 m c) b o n := by
  have e4 : V3 m ρ c main_v4 = (shapeCast S128x1 (K10 m c) shapeCasts_S128_S128x1) := (v3_4 m ρ c).trans ((v2_4 m ρ c).trans (w4 m ρ c))
  have e5 : V3 m ρ c main_v5 = (shapeCast S128x1 (K11 m c) shapeCasts_S128_S128x1) := (v3_5 m ρ c).trans ((v2_5 m ρ c).trans (w5 m ρ c))
  refine (congrFun ((W4_arr m ρ c 4).trans (KernelValue.result_array (V3 m ρ) c)) (ix3 b o n)).trans ?_
  rw [e4, e5]
  refine (KernelRead.result_at (S2 m ρ c) _ (slab (Y2 m ρ c) b) _ o n).trans ?_
  simp only [col, fun b o => (stats2_read m ρ c b o).1, fun b o => (stats2_read m ρ c b o).2]
  rfl

end Cert.Proof.KernelMem
-- ==== Proof.HostOps.lean ====
/-
Readings, at one index, of three host operations of the reference: the sum over the first and last of three axes, the
selection of the greatest entries along the last of three axes, and the gather of columns of a batched matrix.
-/
module

public import Idealize.ShloMosaic.Lib.Pointwise
public import Idealize.ShloMosaic.Lib.IdealHost
public import Idealize.ShloMosaic.Lib.SortFacts

@[expose] public section

set_option maxRecDepth 16384

noncomputable section

namespace Cert.Proof.HostOps

open Idealize.ShloMosaic

/-! ## The sum over axes 0 and 2 -/

section Sum
variable {n0 n1 n2 : Nat}

/-- The source indices that drop to `o` are those with `o` in the middle. -/
theorem fiber02 (h : (⟨3, ![n0, n1, n2]⟩ : Shape).ReducesTo [0, 2] ⟨1, ![n1]⟩) (o : Fin n1)
    (i : (⟨3, ![n0, n1, n2]⟩ : Shape).Idx) :
    h.drop i = ix1 o ↔ ∃ k : Fin n0 × Fin n2, ix3 k.1 o k.2 = i := by
  constructor
  · intro e
    refine ⟨(i 0, i 2), ?_⟩
    funext a; apply Fin.ext
    match a with
    | ⟨0, _⟩ => rfl
    | ⟨1, _⟩ => exact (congrArg Fin.val (congrFun e ⟨0, Nat.one_pos⟩)).symm
    | ⟨2, _⟩ => rfl
  · rintro ⟨k, rfl⟩
    funext b
    apply Fin.ext
    match b with
    | ⟨0, _⟩ => rfl

/-- The host's sum over axes 0 and 2, at `o`: the sum over all pairs of the other two coordinates. -/
theorem sum02 (h : (⟨3, ![n0, n1, n2]⟩ : Shape).ReducesTo [0, 2] ⟨1, ![n1]⟩)
    (x : (⟨3, ![n0, n1, n2]⟩ : Shape).Idx → EReal) (init : EReal) (o : Fin n1) :
    Ideal.hostReduceAdd h x init (ix1 o) = init + ∑ k : Fin n0 × Fin n2, x (ix3 k.1 o k.2) := by
  unfold Ideal.hostReduceAdd
  refine congrArg (init + ·) (Finset.sum_filter_eq_sum_of_fiber _ (fun k : Fin n0 × Fin n2 => ix3 k.1 o k.2)
    (fun _ _ e => Prod.ext (congrFun e 0) (congrFun e 2)) (fiber02 h o) x)

end Sum

/-! ## The greatest entries along the last axis -/

section Order
variable {n : Nat}

/-- The positions of a family by decreasing value, equal values in the order of their positions. -/
def order (v : Fin n → EReal) : Fin n → Fin n :=
  sortedFrom fun k k' => FloatOps.cmpfTotal (F := Ideal) (φ := .f32) .gt (v k) (v k') == 1#1

theorem order_injective (v : Fin n → EReal) : Function.Injective (order v) := sortedFrom_injective _

theorem order_surjective (v : Fin n → EReal) : Function.Surjective (order v) := sortedFrom_surjective _

theorem gt_iff (x y : EReal) :
    (FloatOps.cmpfTotal (F := Ideal) (φ := .f32) .gt x y == 1#1) = true ↔ y < x := by
  show (BitVec.ofBool (decide (y < x)) == 1#1) = true ↔ y < x
  by_cases h : y < x <;> simp [h]

/-- Later positions hold no greater values. -/
theorem order_anti (v : Fin n → EReal) {i j : Fin n} (hij : i < j) : v (order v j) ≤ v (order v i) := by
  have h := sortedFrom_noInversion
    (fun k k' => FloatOps.cmpfTotal (F := Ideal) (φ := .f32) .gt (v k) (v k') == 1#1)
    (fun k k' => FloatOps.cmpfTotal (F := Ideal) (φ := .f32) .gt (v k) (v k') == 1#1)
    (fun a b h => by
      rw [gt_iff] at h
      rw [Bool.eq_false_iff, Ne, gt_iff]
      exact lt_asymm h)
    (fun _ _ h => h)
    (fun a b c h1 h2 => by
      rw [Bool.eq_false_iff, Ne, gt_iff, not_lt] at h1 h2 ⊢
      exact h1.trans h2) i j hij
  rw [Bool.eq_false_iff, Ne, gt_iff, not_lt] at h
  exact h

variable {a b k w : Nat}

/-- Moving an index along the last of its three axes. -/
theorem along_last (i : Fin a) (j : Fin b) (q r : Fin n) :
    Shape.Idx.along (s := ⟨3, ![a, b, n]⟩) (ix3 i j q) (2 : Fin 3) r = ix3 i j r := by
  funext c
  match c with
  | ⟨0, _⟩ => rfl
  | ⟨1, _⟩ => rfl
  | ⟨2, _⟩ => rfl

/-- A stable sort by decreasing first components along the last axis, both components read at one index. -/
theorem sort2_at {β : Type} (x : (⟨3, ![a, b, n]⟩ : Shape).Idx → EReal) (y : (⟨3, ![a, b, n]⟩ : Shape).Idx → β)
    (i : Fin a) (j : Fin b) (q : Fin n) :
    (Host.sort2 ⟨3, ![a, b, n]⟩ 2 (fun l r => FloatOps.cmpfTotal (F := Ideal) (φ := .f32) .gt l.1 r.1) x y).1 (ix3 i j q)
        = x (ix3 i j (order (fun q => x (ix3 i j q)) q))
      ∧ (Host.sort2 ⟨3, ![a, b, n]⟩ 2 (fun l r => FloatOps.cmpfTotal (F := Ideal) (φ := .f32) .gt l.1 r.1) x y).2 (ix3 i j q)
        = y (ix3 i j (order (fun q => x (ix3 i j q)) q)) := by
  have e : (fun r : Fin n => x (Shape.Idx.along (s := ⟨3, ![a, b, n]⟩) (ix3 i j q) (2 : Fin 3) r)) = fun r => x (ix3 i j r) :=
    funext fun r => congrArg x (along_last i j q r)
  unfold Host.sort2
  rw [dif_pos (show 2 < 3 by decide)]
  constructor
  · show x (Shape.Idx.along (s := ⟨3, ![a, b, n]⟩) (ix3 i j q) (2 : Fin 3)
      (order (fun r : Fin n => x (Shape.Idx.along (s := ⟨3, ![a, b, n]⟩) (ix3 i j q) (2 : Fin 3) r)) q)) = _
    rw [e]
    exact congrArg x (along_last i j q _)
  · show y (Shape.Idx.along (s := ⟨3, ![a, b, n]⟩) (ix3 i j q) (2 : Fin 3)
      (order (fun r : Fin n => x (Shape.Idx.along (s := ⟨3, ![a, b, n]⟩) (ix3 i j q) (2 : Fin 3) r)) q)) = _
    rw [e]
    exact congrArg y (along_last i j q _)

/-- The first entries of an array along its last axis. -/
theorem lead_last {β : Type} (v : (⟨3, ![a, b, n]⟩ : Shape).Idx → β)
    (h : (⟨3, ![a, b, n]⟩ : Shape).Slices (fun _ => 0) ⟨3, ![a, b, k]⟩) (i : Fin a) (j : Fin b) (s : Fin k) (hs : s.val < n) :
    extractStridedSlice ⟨3, ![a, b, k]⟩ (fun _ => 0) v h (ix3 i j s) = v (ix3 i j ⟨s.val, hs⟩) := by
  unfold extractStridedSlice
  refine congrArg v (funext fun c => Fin.ext ?_)
  match c with
  | ⟨0, _⟩ => exact Nat.zero_add _
  | ⟨1, _⟩ => exact Nat.zero_add _
  | ⟨2, _⟩ => exact Nat.zero_add _

/-- Each index's position along the last axis, as a word. -/
def words (a b n : Nat) : IVec ⟨3, ![a, b, n]⟩ 32 := fun i =>
  if hd : 2 < (⟨3, ![a, b, n]⟩ : Shape).rank then iotaInDim ⟨3, ![a, b, n]⟩ 32 ⟨2, hd⟩ i else 0#32

/-- The `s`-th greatest value along the last axis. -/
theorem topK_val (x : (⟨3, ![a, b, n]⟩ : Shape).Idx → EReal)
    (h : (⟨3, ![a, b, n]⟩ : Shape).Slices (fun _ => 0) ⟨3, ![a, b, k]⟩) (i : Fin a) (j : Fin b) (s : Fin k) (hs : s.val < n) :
    (Host.topK ⟨3, ![a, b, k]⟩ 2 (FloatOps.cmpfTotal (F := Ideal) (φ := .f32) .gt) x h).1 (ix3 i j s)
      = x (ix3 i j (order (fun q => x (ix3 i j q)) ⟨s.val, hs⟩)) := by
  exact (lead_last _ h i j s hs).trans (sort2_at x (words a b n) i j ⟨s.val, hs⟩).1

/-- The position of the `s`-th greatest value along the last axis, as a word. -/
theorem topK_pos (x : (⟨3, ![a, b, n]⟩ : Shape).Idx → EReal)
    (h : (⟨3, ![a, b, n]⟩ : Shape).Slices (fun _ => 0) ⟨3, ![a, b, k]⟩) (i : Fin a) (j : Fin b) (s : Fin k) (hs : s.val < n) :
    (Host.topK ⟨3, ![a, b, k]⟩ 2 (FloatOps.cmpfTotal (F := Ideal) (φ := .f32) .gt) x h).2 (ix3 i j s)
      = BitVec.ofNat 32 (order (fun q => x (ix3 i j q)) ⟨s.val, hs⟩).val := by
  refine (lead_last _ h i j s hs).trans ((sort2_at x (words a b n) i j ⟨s.val, hs⟩).2.trans ?_)
  unfold words
  rw [dif_pos (show 2 < 3 by decide)]
  rfl

end Order

/-! ## Columns gathered from a batch of matrices -/

section Gather
variable {α : Type} {B C N R S : Nat}

/-- The dimension numbers of `out[b, c, n, s] = x[b, c, idx[b, n, s, 0]]`. -/
abbrev columnDims (B C N R S : Nat)
    (wf : GatherDims.WF ⟨3, ![B, C, N]⟩ ⟨4, ![B, R, S, 1]⟩ ⟨4, ![B, C, R, S]⟩ [1] [2] [0] [2] [0] 3 ![1, C, 1]) :
    GatherDims ⟨3, ![B, C, N]⟩ ⟨4, ![B, R, S, 1]⟩ ⟨4, ![B, C, R, S]⟩ where
  offsetDims := [1]
  collapsedSliceDims := [2]
  operandBatchingDims := [0]
  startIndicesBatchingDims := [0]
  startIndexMap := [2]
  indexVectorDim := 3
  sliceSizes := ![1, C, 1]
  wf := wf

/-- The gather of columns at one index: the start index is read signed and clamped into `[0, N − 1]`. -/
theorem gather_column (hN : 0 < N)
    (wf : GatherDims.WF ⟨3, ![B, C, N]⟩ ⟨4, ![B, R, S, 1]⟩ ⟨4, ![B, C, R, S]⟩ [1] [2] [0] [2] [0] 3 ![1, C, 1])
    (x : (⟨3, ![B, C, N]⟩ : Shape).Idx → α) (idx : IVec ⟨4, ![B, R, S, 1]⟩ 32) (b : Fin B) (c : Fin C) (n : Fin R) (s : Fin S) :
    Host.gather (columnDims B C N R S wf) x idx (ix4 b c n s)
      = x (ix3 b c ⟨min (idx (ix4 b n s 0)).toInt.toNat (N - 1), by omega⟩) := by
  unfold Host.gather
  congr 1
  funext a
  refine Fin.ext ?_
  show (columnDims B C N R S wf).start (ix4 b c n s) idx a + (columnDims B C N R S wf).batchCoord (ix4 b c n s) a
      + (columnDims B C N R S wf).offCoord (ix4 b c n s) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h)]
    unfold GatherDims.start
    rw [dif_neg (fun h => by simp at h)]
    simp only [Nat.zero_add, Nat.add_zero]
    unfold GatherDims.offCoord
    rw [dif_pos ((GatherDims.mem_sKept _ _).mpr ⟨fun h => by simp at h, fun h => by simp at h⟩)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (columnDims B C N R S wf).siIdx (ix4 b c n s) ⟨List.idxOf (2 : Fin 3) (columnDims B C N R S wf).startIndexMap,
        List.idxOf_lt_length_iff.2 (List.mem_singleton.mpr rfl)⟩ = ix4 b n s 0 := by
      funext d; refine Fin.ext ?_
      match d with
      | ⟨0, _⟩ => rfl
      | ⟨1, _⟩ => rfl
      | ⟨2, _⟩ => rfl
      | ⟨3, _⟩ => rfl
    rw [hsi]
    rfl

end Gather

end Cert.Proof.HostOps
-- ==== Proof.RefValue.lean ====
module

public import proofs.«01_k».proof.Proof.Gen.ReferenceIdeal.Run
public import Idealize.ShloMosaic.Lib.Pointwise
public import Idealize.ShloMosaic.Lib.Tactic.CleanTypes
public import Idealize.ShloMosaic.Lib.IdealHost
public import proofs.«01_k».proof.Proof.HostOps
public import proofs.«01_k».proof.Proof.Norm
public import Idealize.ShloMosaic.Lib.WordCmp
public import Idealize.ShloMosaic.Lib.StableHlo.Predicate

@[expose] public section

set_option maxRecDepth 16384

noncomputable section

namespace Cert.Proof.RefValue

open Cert.ReferenceIdeal Cert.ReferenceIdeal.Gen Cert.ReferenceIdeal.Value
open Idealize.ShloMosaic Idealize.ShloMosaic.TcCoe Idealize.SL.Sem

variable (V0 : Valuation τ sig (Elt Ideal))

/-! The twelve arguments. -/

abbrev A0 : S16x3x4096.Idx → EReal := V0 (Proc.devRef .tc main_arg0)
abbrev A1 : S16x3x1024.Idx → EReal := V0 (Proc.devRef .tc main_arg1)
abbrev A2 : S16x64x4096.Idx → EReal := V0 (Proc.devRef .tc main_arg2)
abbrev A3 : S16x128x1024.Idx → EReal := V0 (Proc.devRef .tc main_arg3)
abbrev A4 : S128x192.Idx → EReal := V0 (Proc.devRef .tc main_arg4)
abbrev A5 : S128.Idx → EReal := V0 (Proc.devRef .tc main_arg5)
abbrev A6 : S128.Idx → EReal := V0 (Proc.devRef .tc main_arg6)
abbrev A7 : S128.Idx → EReal := V0 (Proc.devRef .tc main_arg7)
abbrev A8 : S128x128.Idx → EReal := V0 (Proc.devRef .tc main_arg8)
abbrev A9 : S128.Idx → EReal := V0 (Proc.devRef .tc main_arg9)
abbrev A10 : S128.Idx → EReal := V0 (Proc.devRef .tc main_arg10)
abbrev A11 : S128.Idx → EReal := V0 (Proc.devRef .tc main_arg11)

/-- Squared distance between point `n` of the first cloud and point `s` of the second, in batch `b`, as a polynomial in
the coordinates. -/
def dist (p1 : S16x3x4096.Idx → EReal) (p2 : S16x3x1024.Idx → EReal) (b : Fin 16) (n : Fin 4096) (s : Fin 1024) : EReal :=
  ∑ x, p1 (ix3 b x n) * p1 (ix3 b x n) + ∑ x, p2 (ix3 b x s) * p2 (ix3 b x s)
    - Ideal.ofBits .f32 1073741824#32 * ∑ x, p1 (ix3 b x n) * p2 (ix3 b x s)

theorem v15 (b : Fin 16) (n : Fin 4096) (s : Fin 1024) :
    res_main_v15 V0 (ix3 b n s) = -dist (A0 V0) (A1 V0) b n s := by
  unfold res_main_v15 res_main_v0 res_main_v1 dist
  clean_types
  pointwise

/-- The second cloud's points by increasing distance from point `n` of the first. -/
def pick (d : Fin 1024 → EReal) (k : Fin 3) : Fin 1024 := HostOps.order (fun s => -d s) ⟨k.val, by omega⟩

def recip (d : EReal) : EReal :=
  Ideal.div 1 (if d < Ideal.ofBits .f32 786163455#32 then Ideal.ofBits .f32 786163455#32 else d)

abbrev refDist (b : Fin 16) (n : Fin 4096) (s : Fin 1024) : EReal :=
  dist (A0 V0) (A1 V0) b n s

theorem row (b : Fin 16) (n : Fin 4096) :
    (fun q : Fin 1024 => res_main_v15 V0 (ix3 b n q)) = fun q => -refDist V0 b n q := funext fun q => v15 V0 b n q

theorem v16 (b : Fin 16) (n : Fin 4096) (k : Fin 3) :
    res_main_v16 V0 (ix3 b n k) = refDist V0 b n (pick (refDist V0 b n) k) := by
  unfold res_main_v16
  refine Eq.trans (b := -(-refDist V0 b n (pick (refDist V0 b n) k))) ?_ (neg_neg _)
  refine congrArg (fun x : EReal => -x) ?_
  refine (HostOps.topK_val (res_main_v15 V0) _ b n k (by omega)).trans ?_
  exact (v15 V0 b n _).trans (by rw [row]; rfl)

theorem indices (b : Fin 16) (n : Fin 4096) (k : Fin 3) :
    res_main_indices V0 (ix3 b n k) = BitVec.ofNat 32 (pick (refDist V0 b n) k).val := by
  unfold res_main_indices
  refine (HostOps.topK_pos (res_main_v15 V0) _ b n k (by omega)).trans ?_
  rw [row]; rfl

theorem v21 (b : Fin 16) (n : Fin 4096) (k : Fin 3) :
    res_main_v21 V0 (ix3 b n k) = recip (refDist V0 b n (pick (refDist V0 b n) k)) := by
  unfold res_main_v21 recip
  clean_types
  pointwise
  rw [v16]
  rfl

/-- A position below the length of the axis is left alone by the wrapping of negative positions. -/
theorem wrap (p : Nat) (hp : p < 1024) :
    Scalar.select (IntOp.cmpi .slt (BitVec.ofNat 32 p) 0#32) (IntOp.addi (BitVec.ofNat 32 p) 1024#32) (BitVec.ofNat 32 p)
      = BitVec.ofNat 32 p := by
  have h : IntOp.cmpi .slt (BitVec.ofNat 32 p) 0#32 = 0#1 := by
    rw [WordCmp.cmpi_slt_eq, StableHlo.Predicate.toInt_ofNat_small p (by omega)]
    rw [decide_eq_false (by simp)]; rfl
  rw [h]; rfl

theorem column (b : Fin 16) (x : Fin 128) (n : Fin 4096) (k : Fin 3) :
    Host.gather gather_S16x128x1024_S16x4096x3x1_S16x128x4096x3_1_2_0_0_2_3_11281 (V0 (Proc.devRef .tc main_arg3))
      (broadcastInDim S16x4096x3x1 ![0, 1, 2] bcast_S16x4096x3_S16x4096x3x1_0_1_2 (select (cmpi .slt (res_main_indices V0) (broadcastInDim S16x4096x3 ![] bcast_S_S16x4096x3 (constantI S_ 32 0#32))) (addi (res_main_indices V0) (broadcastInDim S16x4096x3 ![] bcast_S_S16x4096x3 (constantI S_ 32 1024#32))) (res_main_indices V0)))
      (ix4 b x n k) = A3 V0 (ix3 b x (pick (refDist V0 b n) k)) := by
  refine (HostOps.gather_column (by decide) _ (A3 V0) _ b x n k).trans ?_
  refine congrArg (A3 V0) (congrArg (ix3 b x) (Fin.ext ?_))
  have hp : (pick (refDist V0 b n) k).val < 1024 := (pick (refDist V0 b n) k).isLt
  have e : (broadcastInDim S16x4096x3x1 ![0, 1, 2] bcast_S16x4096x3_S16x4096x3x1_0_1_2 (select (cmpi .slt (res_main_indices V0) (broadcastInDim S16x4096x3 ![] bcast_S_S16x4096x3 (constantI S_ 32 0#32))) (addi (res_main_indices V0) (broadcastInDim S16x4096x3 ![] bcast_S_S16x4096x3 (constantI S_ 32 1024#32))) (res_main_indices V0)))
      (ix4 b n k 0) = BitVec.ofNat 32 (pick (refDist V0 b n) k).val := by
    pointwise
    rw [indices]
    exact wrap _ hp
  show min (BitVec.toInt _).toNat (1024 - 1) = _
  rw [e, StableHlo.Predicate.toInt_ofNat_small _ (by omega)]
  show min (((pick (refDist V0 b n) k).val : Int)).toNat (1024 - 1) = _
  omega

/-- The reference's interpolated features. -/
def refInterp (b : Fin 16) (n : Fin 4096) (x : Fin 128) : EReal :=
  ∑ k : Fin 3, A3 V0 (ix3 b x (pick (refDist V0 b n) k))
    * Ideal.div (recip (refDist V0 b n (pick (refDist V0 b n) k))) (∑ k : Fin 3, recip (refDist V0 b n (pick (refDist V0 b n) k)))

theorem v42 (b : Fin 16) (o : Fin 128) (n : Fin 4096) :
    res_main_v42 V0 (ix3 b o n)
      = ∑ x : Fin 128, refInterp V0 b n x * A4 V0 (ix2 o ⟨x.val, by omega⟩)
        + ∑ x : Fin 64, A2 V0 (ix3 b x n) * A4 V0 (ix2 o ⟨128 + x.val, by omega⟩)
        + A5 V0 (ix1 o) := by
  unfold res_main_v42 refInterp
  clean_types
  pointwise
  simp only [column V0, v21 V0]

/-! ## The normalisation over batches and points -/

/-- One channel of an array, over batches and points. -/
def chan (Y : S16x128x4096.Idx → EReal) (o : Fin 128) : Fin 16 × Fin 4096 → EReal := fun i => Y (ix3 i.1 o i.2)

/-- The reference's normalised and rectified array. -/
def refNorm (Y : S16x128x4096.Idx → EReal) (g be : S128.Idx → EReal) (b : Fin 16) (o : Fin 128) (n : Fin 4096) : EReal :=
  max (Norm.viaDeviations (Norm.mean Finset.univ (chan Y o))
    (∑ i, (chan Y o i - Norm.mean Finset.univ (chan Y o)) * (chan Y o i - Norm.mean Finset.univ (chan Y o)))
    (Y (ix3 b o n)) (g (ix1 o)) (be (ix1 o))) 0

theorem sum_chan (Y : S16x128x4096.Idx → EReal) (o : Fin 128) :
    Ideal.hostReduceAdd reducesTo_S16x128x4096_S128_d0_2 Y 0 (ix1 o) = ∑ i, chan Y o i :=
  (HostOps.sum02 _ Y 0 o).trans (zero_add _)

theorem count_val : Ideal.ofBits .f32 1199570944#32 - FloatOps.sitofp (F := Ideal) .f32 0#32 = ((65536 : ℝ) : EReal) := by
  have e : (FloatOps.sitofp (F := Ideal) .f32 (0#32 : BitVec 32) : EReal) = 0 := by
    show (((0#32 : BitVec 32).toInt : ℝ) : EReal) = 0
    simp
  rw [e]
  exact (sub_zero _).trans Norm.num

theorem count1 (i : S_.Idx) : res_main_call1_v8 V0 i = ((65536 : ℝ) : EReal) := by
  unfold res_main_call1_v8
  clean_types
  pointwise
  exact count_val

theorem count3 (i : S_.Idx) : res_main_call3_v8 V0 i = ((65536 : ℝ) : EReal) := by
  unfold res_main_call3_v8
  clean_types
  pointwise
  exact count_val

/-- The first layer's output before its normalisation. -/
abbrev Y1 : S16x128x4096.Idx → EReal := res_main_v42 V0

/-- The second layer's output before its normalisation. -/
abbrev Y2 : S16x128x4096.Idx → EReal := res_main_v66 V0

theorem dev1 (b : Fin 16) (o : Fin 128) (n : Fin 4096) :
    res_main_call1_v5 V0 (ix3 b o n) = Y1 V0 (ix3 b o n) - Norm.mean Finset.univ (chan (Y1 V0) o) := by
  unfold res_main_call1_v5 Norm.mean
  clean_types
  pointwise
  rw [sum_chan, ← Norm.num]

theorem dev3 (b : Fin 16) (o : Fin 128) (n : Fin 4096) :
    res_main_call3_v5 V0 (ix3 b o n) = Y2 V0 (ix3 b o n) - Norm.mean Finset.univ (chan (Y2 V0) o) := by
  unfold res_main_call3_v5 Norm.mean
  clean_types
  pointwise
  rw [sum_chan, ← Norm.num]

theorem sq1 (o : Fin 128) (i : Fin 16 × Fin 4096) :
    chan (mulf (F := Ideal) (φ := .f32) (res_main_call1_v5 V0) (res_main_call1_v5 V0)) o i
      = (chan (Y1 V0) o i - Norm.mean Finset.univ (chan (Y1 V0) o))
        * (chan (Y1 V0) o i - Norm.mean Finset.univ (chan (Y1 V0) o)) :=
  congrArg (fun z : EReal => z * z) (dev1 V0 i.1 o i.2)

theorem sq3 (o : Fin 128) (i : Fin 16 × Fin 4096) :
    chan (mulf (F := Ideal) (φ := .f32) (res_main_call3_v5 V0) (res_main_call3_v5 V0)) o i
      = (chan (Y2 V0) o i - Norm.mean Finset.univ (chan (Y2 V0) o))
        * (chan (Y2 V0) o i - Norm.mean Finset.univ (chan (Y2 V0) o)) :=
  congrArg (fun z : EReal => z * z) (dev3 V0 i.1 o i.2)

theorem count_pos : (0 : EReal) < ((65536 : ℝ) : EReal) := by exact_mod_cast (by norm_num : (0 : ℝ) < 65536)

theorem v66 (b : Fin 16) (o : Fin 128) (n : Fin 4096) :
    Y2 V0 (ix3 b o n)
      = ∑ x : Fin 128, refNorm (Y1 V0) (A6 V0) (A7 V0) b x n * A8 V0 (ix2 o x) + A9 V0 (ix1 o) := by
  unfold Y2 res_main_v66
  clean_types
  pointwise
  simp only [sum_chan, count1, if_pos count_pos, sq1]
  unfold refNorm Norm.viaDeviations Norm.mean
  rw [Norm.num]

/-- On every device the reference's run ends with its result at the twice normalised layers and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85)
          = (fun i => refNorm (Y2 (StableHlo.launchContents m c)) (A10 (StableHlo.launchContents m c)) (A11 (StableHlo.launchContents m c)) (i 0) (i 1) (i 2)
            : S16x128x4096.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans (funext fun i => ?_), (h c).2⟩) (Value.run m ρ)
  obtain ⟨b, o, n, rfl⟩ : ∃ (b : Fin 16) (o : Fin 128) (n : Fin 4096), ix3 b o n = i := ⟨i 0, i 1, i 2, ix3_eta i⟩
  show _ = refNorm (Y2 (StableHlo.launchContents m c)) (A10 (StableHlo.launchContents m c)) (A11 (StableHlo.launchContents m c)) b o n
  clear h
  generalize StableHlo.launchContents m c = V0
  clean_types
  pointwise
  simp only [sum_chan, count3, if_pos count_pos, sq3]
  unfold refNorm Norm.viaDeviations Norm.mean
  rw [Norm.num]

end Cert.Proof.RefValue
-- ==== Proof.Decided.lean ====
/-
What the precondition says, read off its comparisons: the second cloud's coordinates are finite, and from every point of
the first cloud the three nearest points of the second are strictly ordered and strictly nearer than the rest.
-/
module

public import proofs.«01_k».proof.Proof.Gen.Pre_three_nearest_decided
public import proofs.«01_k».proof.Proof.HostOps
public import proofs.«01_k».proof.Proof.Weights
public import Idealize.ShloMosaic.Lib.Tactic.CleanTypes

@[expose] public section

set_option maxRecDepth 16384

noncomputable section

namespace Cert.Proof.Decided

open Cert.Pre_three_nearest_decided Cert.Pre_three_nearest_decided.Gen
open Idealize.ShloMosaic
open Cert.Proof.Select Cert.Proof.Weights

/-- The position of the `k`-th nearest place. -/
def place (d : Fin 1024 → EReal) (k : Nat) (hk : k < 1024) : Fin 1024 := HostOps.order (fun s => -d s) ⟨k, hk⟩

/-- Four strictly separated leading distances make the first three the nearest. -/
theorem nearest_of (d : Fin 1024 → EReal)
    (h : ∀ (k : Nat) (hk : k < 3), d (place d k (by omega)) < d (place d (k + 1) (by omega))) :
    Nearest d (place d 0 (by omega)) (place d 1 (by omega)) (place d 2 (by omega)) where
  lt01 := h 0 (by omega)
  lt12 := h 1 (by omega)
  rest s e0 e1 e2 := by
    obtain ⟨⟨j, hj⟩, rfl⟩ := HostOps.order_surjective (fun s => -d s) s
    have h23 := h 2 (by omega)
    have hj0 : j ≠ 0 := fun e => e0 (by subst e; rfl)
    have hj1 : j ≠ 1 := fun e => e1 (by subst e; rfl)
    have hj2 : j ≠ 2 := fun e => e2 (by subst e; rfl)
    by_cases hj3 : j = 3
    · subst hj3; exact h23
    · have hle := HostOps.order_anti (fun s => -d s) (i := ⟨3, by omega⟩) (j := ⟨j, hj⟩) (by rw [Fin.mk_lt_mk]; omega)
      exact h23.trans_le (EReal.neg_le_neg_iff.mp hle)

variable (a0 : FVec Ideal S16x3x4096 .f32) (a1 : FVec Ideal S16x3x1024 .f32) (a2 : FVec Ideal S16x64x4096 .f32)
  (a3 : FVec Ideal S16x128x1024 .f32) (a4 : FVec Ideal S128x192 .f32) (a5 a6 a7 : FVec Ideal S128 .f32)
  (a8 : FVec Ideal S128x128 .f32) (a9 a10 a11 : FVec Ideal S128 .f32)

/-- The distances from point `n` of the first cloud. -/
def row (b : Fin 16) (n : Fin 4096) (s : Fin 1024) : EReal := distRef (fun x => a0 (ix3 b x n)) (fun x => a1 (ix3 b x s))

theorem levels : ∃ x : FVec Ideal S16x4096x1024 .f32, (∀ b n s, x (ix3 b n s) = -row a0 a1 b n s)
    ∧ (fn (F := Ideal) a0 a1 a2 a3 a4 a5 a6 a7 a8 a9 a10 a11).2
      = cmpf .ogt
          (extractStridedSlice S16x4096x3 ![0, 0, 0]
            (Host.topK S16x4096x4 2 (FloatOps.cmpfTotal .gt) x sliceFits_S16x4096x1024_S16x4096x4).1 slices_S16x4096x4_S16x4096x3_0_0_0)
          (extractStridedSlice S16x4096x3 ![0, 0, 1]
            (Host.topK S16x4096x4 2 (FloatOps.cmpfTotal .gt) x sliceFits_S16x4096x1024_S16x4096x4).1 slices_S16x4096x4_S16x4096x3_0_0_1) := by
  refine ⟨_, ?_, rfl⟩
  intro b n s
  unfold row distRef
  pointwise

/-- The comparison of consecutive distances, at one index. -/
theorem strict (h : (fn (F := Ideal) a0 a1 a2 a3 a4 a5 a6 a7 a8 a9 a10 a11).2 = fun _ => 1#1) (b : Fin 16) (n : Fin 4096)
    (k : Nat) (hk : k < 3) :
    row a0 a1 b n (place (row a0 a1 b n) k (by omega)) < row a0 a1 b n (place (row a0 a1 b n) (k + 1) (by omega)) := by
  obtain ⟨x, hx, e⟩ := levels a0 a1 a2 a3 a4 a5 a6 a7 a8 a9 a10 a11
  have hr : (fun q => x (ix3 b n q)) = fun q => -row a0 a1 b n q := funext (hx b n)
  have h' := (congrFun e (ix3 b n ⟨k, hk⟩)).symm.trans (congrFun h (ix3 b n ⟨k, hk⟩))
  have t : ∀ (q : Fin 4), (Host.topK S16x4096x4 2 (FloatOps.cmpfTotal (F := Ideal) (φ := .f32) .gt) x sliceFits_S16x4096x1024_S16x4096x4).1 (ix3 b n q)
      = -row a0 a1 b n (place (row a0 a1 b n) q.val (by omega)) := fun q =>
    (HostOps.topK_val x _ b n q (by omega)).trans (by rw [hr, hx]; rfl)
  have l : extractStridedSlice S16x4096x3 ![0, 0, 0]
        (Host.topK S16x4096x4 2 (FloatOps.cmpfTotal (F := Ideal) (φ := .f32) .gt) x sliceFits_S16x4096x1024_S16x4096x4).1 slices_S16x4096x4_S16x4096x3_0_0_0
        (ix3 b n ⟨k, hk⟩) = -row a0 a1 b n (place (row a0 a1 b n) k (by omega)) := by
    refine Eq.trans ?_ (t ⟨k, by omega⟩)
    pointwise
  have r : extractStridedSlice S16x4096x3 ![0, 0, 1]
        (Host.topK S16x4096x4 2 (FloatOps.cmpfTotal (F := Ideal) (φ := .f32) .gt) x sliceFits_S16x4096x1024_S16x4096x4).1 slices_S16x4096x4_S16x4096x3_0_0_1
        (ix3 b n ⟨k, hk⟩) = -row a0 a1 b n (place (row a0 a1 b n) (k + 1) (by omega)) := by
    refine Eq.trans ?_ (t ⟨k + 1, by omega⟩)
    pointwise
    exact congrArg _ (congrArg (ix3 b n) (Fin.ext (Nat.add_comm _ _)))
  have h2 : FloatOps.cmpf (F := Ideal) (φ := .f32) .ogt
      (-row a0 a1 b n (place (row a0 a1 b n) k (by omega)))
      (-row a0 a1 b n (place (row a0 a1 b n) (k + 1) (by omega))) = 1#1 := by
    rw [← l, ← r]; exact h'
  have h3 : BitVec.ofBool (decide (-row a0 a1 b n (place (row a0 a1 b n) (k + 1) (by omega))
      < -row a0 a1 b n (place (row a0 a1 b n) k (by omega)))) = 1#1 := h2
  refine EReal.neg_lt_neg_iff.mp ?_
  by_contra hn
  rw [decide_eq_false hn] at h3
  exact absurd h3 (by decide)

/-- The three nearest places. -/
theorem nearest (h : (fn (F := Ideal) a0 a1 a2 a3 a4 a5 a6 a7 a8 a9 a10 a11).2 = fun _ => 1#1) (b : Fin 16) (n : Fin 4096) :
    Nearest (row a0 a1 b n) (place (row a0 a1 b n) 0 (by omega)) (place (row a0 a1 b n) 1 (by omega))
      (place (row a0 a1 b n) 2 (by omega)) :=
  nearest_of _ fun k hk => strict a0 a1 a2 a3 a4 a5 a6 a7 a8 a9 a10 a11 h b n k hk

/-- The second cloud is finite. -/
theorem second_finite (h : (fn (F := Ideal) a0 a1 a2 a3 a4 a5 a6 a7 a8 a9 a10 a11).1 = fun _ => 1#1) (b : Fin 16) (x : Fin 3) (s : Fin 1024) :
    (a1 (ix3 b x s) : EReal) ≠ ⊤ ∧ (a1 (ix3 b x s) : EReal) ≠ ⊥ := by
  have h' : FloatOps.cmpf (F := Ideal) (φ := .f32) .olt (FloatOps.hostAbsf (F := Ideal) (φ := .f32) (a1 (ix3 b x s))) (Ideal.ofBits .f32 0x7F800000#32) = 1#1 :=
    congrFun h (ix3 b x s)
  have hi : Ideal.ofBits .f32 0x7F800000#32 = ⊤ := by simp [Ideal.ofBits, Ideal.ieee, -EReal.coe_mul]
  rw [hi] at h'
  generalize (a1 (ix3 b x s) : EReal) = y at h' ⊢
  have h2 : BitVec.ofBool (decide (max y (-y) < (⊤ : EReal))) = 1#1 := h'
  have h3 : max y (-y) < (⊤ : EReal) := by
    by_contra hn
    rw [decide_eq_false hn] at h2
    exact absurd h2 (by decide)
  refine ⟨((le_max_left _ _).trans_lt h3).ne, fun e => ?_⟩
  rw [e] at h3
  exact absurd ((le_max_right _ _).trans_lt h3) (by simp)

end Cert.Proof.Decided
-- ==== Proof.Equal.lean ====
/-
The kernel's result and the reference's, from equal arguments, are equal under the precondition.
-/
module

public import proofs.«01_k».proof.Proof.KernelMem
public import proofs.«01_k».proof.Proof.RefValue
public import proofs.«01_k».proof.Proof.Decided

@[expose] public section

set_option maxRecDepth 16384

noncomputable section

namespace Cert.Proof.Equal

open Idealize.ShloMosaic Idealize.ShloMosaic.TcCoe Idealize.SL.Sem
open Cert.KernelIdeal
open Cert.Proof.KernelValue (slab)
open Cert.Proof.Weights Cert.Proof.Select

/-! ## Batch normalisation -/

/-- From one array, the kernel's batch normalisation and the reference's agree. -/
theorem norm (Y : S16x128x4096.Idx → EReal) (g be : S128.Idx → EReal) (b : Fin 16) (o : Fin 128) (n : Fin 4096) :
    KernelMem.kerNorm Y g be b o n = RefValue.refNorm Y g be b o n := by
  have hs : (Finset.univ : Finset (Fin 16 × Fin 4096)).card = 65536 := by
    rw [Finset.card_univ, Fintype.card_prod, Fintype.card_fin, Fintype.card_fin]
  have h := Norm.norm_eq Finset.univ hs (RefValue.chan Y o) (Y (ix3 b o n)) (g (ix1 o)) (be (ix1 o)) ⟨(b, n), Finset.mem_univ _, rfl⟩
  rw [Fintype.sum_prod_type, Fintype.sum_prod_type] at h
  exact congrArg (max · 0) h

/-! ## First layer -/

variable (a0 : S16x3x4096.Idx → EReal) (a1 : S16x3x1024.Idx → EReal) (b : Fin 16) (n : Fin 4096)

/-- A point whose three nearest are decided among finite points is finite itself, and the kernel's distances from it are
the reference's. -/
theorem row_eq (h1 : ∀ x s, a1 (ix3 b x s) ≠ ⊤ ∧ a1 (ix3 b x s) ≠ ⊥) {s0 s1 s2 : Fin 1024} (h : Nearest (Decided.row a0 a1 b n) s0 s1 s2) :
    KernelRead.row (slab a0 b) (slab a1 b) n = Decided.row a0 a1 b n := by
  have hd : Decided.row a0 a1 b n s1 ≠ ⊤ ∧ Decided.row a0 a1 b n s1 ≠ ⊥ := ⟨h.lt12.ne_top, h.lt01.ne_bot⟩
  have ha := finite_of_dist (fun x => a0 (ix3 b x n)) (fun x => a1 (ix3 b x s1)) (fun x => h1 x s1) hd
  exact funext fun s => dist_eq (fun x => a0 (ix3 b x n)) (fun x => a1 (ix3 b x s)) ha fun x => h1 x s

/-- The interpolated features. -/
theorem interp_eq (h1 : ∀ x s, a1 (ix3 b x s) ≠ ⊤ ∧ a1 (ix3 b x s) ≠ ⊥)
    (h : Nearest (Decided.row a0 a1 b n) (Decided.place (Decided.row a0 a1 b n) 0 (by omega))
      (Decided.place (Decided.row a0 a1 b n) 1 (by omega)) (Decided.place (Decided.row a0 a1 b n) 2 (by omega)))
    (f : Fin 1024 → EReal) :
    ∑ s, f s * KernelRead.weight (slab a0 b) (slab a1 b) n s
      = ∑ k : Fin 3, f (RefValue.pick (RefValue.dist a0 a1 b n) k)
        * Ideal.div (RefValue.recip (RefValue.dist a0 a1 b n (RefValue.pick (RefValue.dist a0 a1 b n) k)))
          (∑ k : Fin 3, RefValue.recip (RefValue.dist a0 a1 b n (RefValue.pick (RefValue.dist a0 a1 b n) k))) := by
  unfold KernelRead.weight
  rw [row_eq a0 a1 b n h1 h]
  refine (sum_eq h f).trans ?_
  simp only [Fin.sum_univ_three]
  rfl

/-! ## The two programs -/

section Programs

variable (m : (ℓ : Loc nD τ sig) → Buf (Elt Ideal) ℓ) (ρ : Dev nD → PrngReg) (c : Dev nD)
variable (V0 : Valuation Cert.ReferenceIdeal.τ Cert.ReferenceIdeal.sig (Elt Ideal))

variable (h1 : ∀ b x s, KernelMem.K1 m c (ix3 b x s) ≠ ⊤ ∧ KernelMem.K1 m c (ix3 b x s) ≠ ⊥)
variable (h : ∀ b n, Nearest (Decided.row (KernelMem.K0 m c) (KernelMem.K1 m c) b n)
  (Decided.place (Decided.row (KernelMem.K0 m c) (KernelMem.K1 m c) b n) 0 (by omega))
  (Decided.place (Decided.row (KernelMem.K0 m c) (KernelMem.K1 m c) b n) 1 (by omega))
  (Decided.place (Decided.row (KernelMem.K0 m c) (KernelMem.K1 m c) b n) 2 (by omega)))

include h1 h in
theorem y1_eq (e0 : RefValue.A0 V0 = KernelMem.K0 m c) (e1 : RefValue.A1 V0 = KernelMem.K1 m c) (e2 : RefValue.A2 V0 = KernelMem.K2 m c)
    (e3 : RefValue.A3 V0 = KernelMem.K3 m c) (e4 : RefValue.A4 V0 = KernelMem.K4 m c) (e5 : RefValue.A5 V0 = KernelMem.K5 m c) :
    KernelMem.Y1 m ρ c = RefValue.Y1 V0 := by
  funext i
  obtain ⟨b, o, n, rfl⟩ : ∃ (b : Fin 16) (o : Fin 128) (n : Fin 4096), i = ix3 b o n := ⟨i 0, i 1, i 2, (ix3_eta i).symm⟩
  refine (KernelMem.y1_read m ρ c b o n).trans (Eq.trans ?_ (RefValue.v42 V0 b o n).symm)
  have hi : ∀ x : Fin 128, RefValue.refInterp V0 b n x = ∑ s : Fin 1024, KernelMem.K3 m c (ix3 b x s)
      * KernelRead.weight (slab (KernelMem.K0 m c) b) (slab (KernelMem.K1 m c) b) n s := fun x => by
    unfold RefValue.refInterp RefValue.refDist
    rw [e0, e1, e3]
    exact (interp_eq (KernelMem.K0 m c) (KernelMem.K1 m c) b n (h1 b) (h b n) fun s => KernelMem.K3 m c (ix3 b x s)).symm
  simp only [hi, e2, e4, e5]
  refine congrArg₂ (· + ·) (congrArg₂ (· + ·) ?_ ?_) rfl <;> exact Finset.sum_congr rfl fun x _ => mul_comm _ _

theorem y2_eq (hy : KernelMem.Y1 m ρ c = RefValue.Y1 V0) (e6 : RefValue.A6 V0 = KernelMem.K6 m c) (e7 : RefValue.A7 V0 = KernelMem.K7 m c)
    (e8 : RefValue.A8 V0 = KernelMem.K8 m c) (e9 : RefValue.A9 V0 = KernelMem.K9 m c) : KernelMem.Y2 m ρ c = RefValue.Y2 V0 := by
  funext i
  obtain ⟨b, o, n, rfl⟩ : ∃ (b : Fin 16) (o : Fin 128) (n : Fin 4096), i = ix3 b o n := ⟨i 0, i 1, i 2, (ix3_eta i).symm⟩
  refine (KernelMem.y2_read m ρ c b o n).trans (Eq.trans ?_ (RefValue.v66 V0 b o n).symm)
  rw [e6, e7, e8, e9, ← hy]
  simp only [norm]
  exact congrArg (· + _) (Finset.sum_congr rfl fun x _ => mul_comm _ _)

include h1 h in
theorem result
    (e0 : RefValue.A0 V0 = KernelMem.K0 m c)
    (e1 : RefValue.A1 V0 = KernelMem.K1 m c)
    (e2 : RefValue.A2 V0 = KernelMem.K2 m c)
    (e3 : RefValue.A3 V0 = KernelMem.K3 m c)
    (e4 : RefValue.A4 V0 = KernelMem.K4 m c)
    (e5 : RefValue.A5 V0 = KernelMem.K5 m c)
    (e6 : RefValue.A6 V0 = KernelMem.K6 m c)
    (e7 : RefValue.A7 V0 = KernelMem.K7 m c)
    (e8 : RefValue.A8 V0 = KernelMem.K8 m c)
    (e9 : RefValue.A9 V0 = KernelMem.K9 m c)
    (e10 : RefValue.A10 V0 = KernelMem.K10 m c)
    (e11 : RefValue.A11 V0 = KernelMem.K11 m c) :
    (fun i => RefValue.refNorm (RefValue.Y2 V0) (RefValue.A10 V0) (RefValue.A11 V0) (i 0) (i 1) (i 2) : S16x128x4096.Idx → EReal)
      = Gen.W4 m ρ c (Proc.devRef .tc main_v8) := by
  have hy := y2_eq m ρ c V0 (y1_eq m ρ c V0 h1 h e0 e1 e2 e3 e4 e5) e6 e7 e8 e9
  funext i
  obtain ⟨b, o, n, rfl⟩ : ∃ (b : Fin 16) (o : Fin 128) (n : Fin 4096), i = ix3 b o n := ⟨i 0, i 1, i 2, (ix3_eta i).symm⟩
  refine Eq.trans ?_ (KernelMem.result_read m ρ c b o n).symm
  rw [norm, hy, e10, e11]
  rfl

end Programs

end Cert.Proof.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_three_nearest_decided
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference's run ends with its argument arrays unchanged; it declares no semaphore. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- Both programs run, and end with the same result. -/
theorem algebraic_r : Cert.algebraic_KernelIdeal_ReferenceIdeal_pre_three_nearest_decided := fun m g m' g' hPre hArgs => by
  refine ⟨fun c => Cert.KernelIdeal.Gen.W4 m g c (Proc.devRef .tc Cert.KernelIdeal.main_v8), KernelRun.run m g, ?_⟩
  refine (θ_run Cert.ReferenceIdeal.defs _ _).mono (fun r h c => ⟨(h c).1.trans ?_, (h c).2⟩) (RefValue.run m' g')
  obtain ⟨e0, e1, e2, e3, e4, e5, e6, e7, e8, e9, e10, e11⟩ := hArgs c
  exact Equal.result m g c (StableHlo.launchContents m' c)
    (fun b x s => Decided.second_finite _ _ _ _ _ _ _ _ _ _ _ _ (hPre c).1 b x s)
    (fun b n => Decided.nearest _ _ _ _ _ _ _ _ _ _ _ _ (hPre c).2 b n)
    e0 e1 e2 e3 e4 e5 e6 e7 e8 e9 e10 e11

theorem claim : Cert.Claim := ⟨Cert.Kernel.Gen.facts, Cert.KernelIdeal.Gen.facts, Cert.ReferenceIdeal.Gen.facts, Cert.Pre_three_nearest_decided.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, algebraic_r⟩

end Cert.Proof

end
